-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x28x28 : Shape := ⟨4, ![128, 1, 28, 28]⟩
abbrev S32x1x5x5 : Shape := ⟨4, ![32, 1, 5, 5]⟩
abbrev S32 : Shape := ⟨1, ![32]⟩
abbrev S32x32x5x5 : Shape := ⟨4, ![32, 32, 5, 5]⟩
abbrev S64x32x5x5 : Shape := ⟨4, ![64, 32, 5, 5]⟩
abbrev S64 : Shape := ⟨1, ![64]⟩
abbrev S1024x3136 : Shape := ⟨2, ![1024, 3136]⟩
abbrev S1024 : Shape := ⟨1, ![1024]⟩
abbrev S10x1024 : Shape := ⟨2, ![10, 1024]⟩
abbrev S10 : Shape := ⟨1, ![10]⟩
abbrev S32x512x196 : Shape := ⟨3, ![32, 512, 196]⟩
abbrev S64x512x49 : Shape := ⟨3, ![64, 512, 49]⟩
abbrev S1x100352 : Shape := ⟨2, ![1, 100352]⟩
abbrev S32x25 : Shape := ⟨2, ![32, 25]⟩
abbrev S32x1 : Shape := ⟨2, ![32, 1]⟩
abbrev S32x100352 : Shape := ⟨2, ![32, 100352]⟩
abbrev S1x12544 : Shape := ⟨2, ![1, 12544]⟩
abbrev S32x12544 : Shape := ⟨2, ![32, 12544]⟩
abbrev S25x12544 : Shape := ⟨2, ![25, 12544]⟩
abbrev S32x128x28x28 : Shape := ⟨4, ![32, 128, 28, 28]⟩
abbrev S32x128x14x14 : Shape := ⟨4, ![32, 128, 14, 14]⟩
abbrev S32x128x196 : Shape := ⟨3, ![32, 128, 196]⟩
abbrev S1x128x196 : Shape := ⟨3, ![1, 128, 196]⟩
abbrev S1x512x196 : Shape := ⟨3, ![1, 512, 196]⟩
abbrev S128x196 : Shape := ⟨2, ![128, 196]⟩
abbrev S512x196 : Shape := ⟨2, ![512, 196]⟩
abbrev S128 : Shape := ⟨1, ![128]⟩
abbrev S128x1 : Shape := ⟨2, ![128, 1]⟩
abbrev S128x512 : Shape := ⟨2, ![128, 512]⟩
abbrev S32x32x25 : Shape := ⟨3, ![32, 32, 25]⟩
abbrev S25x32x32 : Shape := ⟨3, ![25, 32, 32]⟩
abbrev S32x25088 : Shape := ⟨2, ![32, 25088]⟩
abbrev S32x6272 : Shape := ⟨2, ![32, 6272]⟩
abbrev S1x6272 : Shape := ⟨2, ![1, 6272]⟩
abbrev S1x32x32 : Shape := ⟨3, ![1, 32, 32]⟩
abbrev S32x32 : Shape := ⟨2, ![32, 32]⟩
abbrev S64x32x25 : Shape := ⟨3, ![64, 32, 25]⟩
abbrev S25x64x32 : Shape := ⟨3, ![25, 64, 32]⟩
abbrev S64x1 : Shape := ⟨2, ![64, 1]⟩
abbrev S64x25088 : Shape := ⟨2, ![64, 25088]⟩
abbrev S64x6272 : Shape := ⟨2, ![64, 6272]⟩
abbrev S1x64x32 : Shape := ⟨3, ![1, 64, 32]⟩
abbrev S64x32 : Shape := ⟨2, ![64, 32]⟩
abbrev S64x128x14x14 : Shape := ⟨4, ![64, 128, 14, 14]⟩
abbrev S64x128x7x7 : Shape := ⟨4, ![64, 128, 7, 7]⟩
abbrev S64x128x49 : Shape := ⟨3, ![64, 128, 49]⟩
abbrev S1x128x49 : Shape := ⟨3, ![1, 128, 49]⟩
abbrev S1x512x49 : Shape := ⟨3, ![1, 512, 49]⟩
abbrev S128x49 : Shape := ⟨2, ![128, 49]⟩
abbrev S512x49 : Shape := ⟨2, ![512, 49]⟩
abbrev S128x64x49 : Shape := ⟨3, ![128, 64, 49]⟩
abbrev S128x3136 : Shape := ⟨2, ![128, 3136]⟩
abbrev S1x1024 : Shape := ⟨2, ![1, 1024]⟩
abbrev S1x10 : Shape := ⟨2, ![1, 10]⟩
abbrev S128x10 : Shape := ⟨2, ![128, 10]⟩
abbrev S128x1024 : Shape := ⟨2, ![128, 1024]⟩

abbrev nBuf : Space → Nat
  | .hbm => 43
  | .vmem => 42
  | .smem => 0
  | _ => 0

abbrev bufTy : (tb : Table) → Fin (tcTables nBuf tb) → BufTy
  | .hbm, ⟨0, _⟩ => ⟨S128x1x28x28, .f32⟩
  | .hbm, ⟨1, _⟩ => ⟨S32x1x5x5, .f32⟩
  | .hbm, ⟨2, _⟩ => ⟨S32, .f32⟩
  | .hbm, ⟨3, _⟩ => ⟨S32x32x5x5, .f32⟩
  | .hbm, ⟨4, _⟩ => ⟨S32, .f32⟩
  | .hbm, ⟨5, _⟩ => ⟨S64x32x5x5, .f32⟩
  | .hbm, ⟨6, _⟩ => ⟨S64, .f32⟩
  | .hbm, ⟨7, _⟩ => ⟨S1024x3136, .f32⟩
  | .hbm, ⟨8, _⟩ => ⟨S1024, .f32⟩
  | .hbm, ⟨9, _⟩ => ⟨S10x1024, .f32⟩
  | .hbm, ⟨10, _⟩ => ⟨S10, .f32⟩
  | .hbm, ⟨11, _⟩ => ⟨S32x512x196, .f32⟩
  | .hbm, ⟨12, _⟩ => ⟨S32x512x196, .f32⟩
  | .hbm, ⟨13, _⟩ => ⟨S64x512x49, .f32⟩
  | .hbm, ⟨14, _⟩ => ⟨S1x100352, .f32⟩
  | .hbm, ⟨15, _⟩ => ⟨S32x25, .f32⟩
  | .hbm, ⟨16, _⟩ => ⟨S32x1, .f32⟩
  | .hbm, ⟨17, _⟩ => ⟨S32x100352, .f32⟩
  | .hbm, ⟨18, _⟩ => ⟨S32x128x28x28, .f32⟩
  | .hbm, ⟨19, _⟩ => ⟨S32x128x14x14, .f32⟩
  | .hbm, ⟨20, _⟩ => ⟨S32x128x196, .f32⟩
  | .hbm, ⟨21, _⟩ => ⟨S32x128x196, .f32⟩
  | .hbm, ⟨22, _⟩ => ⟨S32x32x25, .f32⟩
  | .hbm, ⟨23, _⟩ => ⟨S25x32x32, .f32⟩
  | .hbm, ⟨24, _⟩ => ⟨S32x25088, .f32⟩
  | .hbm, ⟨25, _⟩ => ⟨S32x1, .f32⟩
  | .hbm, ⟨26, _⟩ => ⟨S32x25088, .f32⟩
  | .hbm, ⟨27, _⟩ => ⟨S32x128x196, .f32⟩
  | .hbm, ⟨28, _⟩ => ⟨S32x128x196, .f32⟩
  | .hbm, ⟨29, _⟩ => ⟨S64x32x25, .f32⟩
  | .hbm, ⟨30, _⟩ => ⟨S25x64x32, .f32⟩
  | .hbm, ⟨31, _⟩ => ⟨S32x25088, .f32⟩
  | .hbm, ⟨32, _⟩ => ⟨S64x1, .f32⟩
  | .hbm, ⟨33, _⟩ => ⟨S64x25088, .f32⟩
  | .hbm, ⟨34, _⟩ => ⟨S64x128x14x14, .f32⟩
  | .hbm, ⟨35, _⟩ => ⟨S64x128x7x7, .f32⟩
  | .hbm, ⟨36, _⟩ => ⟨S64x128x49, .f32⟩
  | .hbm, ⟨37, _⟩ => ⟨S64x128x49, .f32⟩
  | .hbm, ⟨38, _⟩ => ⟨S128x64x49, .f32⟩
  | .hbm, ⟨39, _⟩ => ⟨S128x3136, .f32⟩
  | .hbm, ⟨40, _⟩ => ⟨S1x1024, .f32⟩
  | .hbm, ⟨41, _⟩ => ⟨S1x10, .f32⟩
  | .hbm, ⟨42, _⟩ => ⟨S128x10, .f32⟩
  | .local _ .vmem, ⟨0, _⟩ => ⟨S1x12544, .f32⟩
  | .local _ .vmem, ⟨1, _⟩ => ⟨S1x12544, .f32⟩
  | .local _ .vmem, ⟨2, _⟩ => ⟨S32x25, .f32⟩
  | .local _ .vmem, ⟨3, _⟩ => ⟨S32x1, .f32⟩
  | .local _ .vmem, ⟨4, _⟩ => ⟨S32x12544, .f32⟩
  | .local _ .vmem, ⟨5, _⟩ => ⟨S32x12544, .f32⟩
  | .local _ .vmem, ⟨6, _⟩ => ⟨S1x128x196, .f32⟩
  | .local _ .vmem, ⟨7, _⟩ => ⟨S1x128x196, .f32⟩
  | .local _ .vmem, ⟨8, _⟩ => ⟨S1x512x196, .f32⟩
  | .local _ .vmem, ⟨9, _⟩ => ⟨S1x512x196, .f32⟩
  | .local _ .vmem, ⟨10, _⟩ => ⟨S1x128x196, .f32⟩
  | .local _ .vmem, ⟨11, _⟩ => ⟨S1x128x196, .f32⟩
  | .local _ .vmem, ⟨12, _⟩ => ⟨S32x6272, .f32⟩
  | .local _ .vmem, ⟨13, _⟩ => ⟨S32x6272, .f32⟩
  | .local _ .vmem, ⟨14, _⟩ => ⟨S25x32x32, .f32⟩
  | .local _ .vmem, ⟨15, _⟩ => ⟨S32x1, .f32⟩
  | .local _ .vmem, ⟨16, _⟩ => ⟨S32x6272, .f32⟩
  | .local _ .vmem, ⟨17, _⟩ => ⟨S32x6272, .f32⟩
  | .local _ .vmem, ⟨18, _⟩ => ⟨S1x128x196, .f32⟩
  | .local _ .vmem, ⟨19, _⟩ => ⟨S1x128x196, .f32⟩
  | .local _ .vmem, ⟨20, _⟩ => ⟨S1x512x196, .f32⟩
  | .local _ .vmem, ⟨21, _⟩ => ⟨S1x512x196, .f32⟩
  | .local _ .vmem, ⟨22, _⟩ => ⟨S1x128x196, .f32⟩
  | .local _ .vmem, ⟨23, _⟩ => ⟨S1x128x196, .f32⟩
  | .local _ .vmem, ⟨24, _⟩ => ⟨S32x6272, .f32⟩
  | .local _ .vmem, ⟨25, _⟩ => ⟨S32x6272, .f32⟩
  | .local _ .vmem, ⟨26, _⟩ => ⟨S25x64x32, .f32⟩
  | .local _ .vmem, ⟨27, _⟩ => ⟨S64x1, .f32⟩
  | .local _ .vmem, ⟨28, _⟩ => ⟨S64x6272, .f32⟩
  | .local _ .vmem, ⟨29, _⟩ => ⟨S64x6272, .f32⟩
  | .local _ .vmem, ⟨30, _⟩ => ⟨S1x128x49, .f32⟩
  | .local _ .vmem, ⟨31, _⟩ => ⟨S1x128x49, .f32⟩
  | .local _ .vmem, ⟨32, _⟩ => ⟨S1x512x49, .f32⟩
  | .local _ .vmem, ⟨33, _⟩ => ⟨S1x512x49, .f32⟩
  | .local _ .vmem, ⟨34, _⟩ => ⟨S1x128x49, .f32⟩
  | .local _ .vmem, ⟨35, _⟩ => ⟨S1x128x49, .f32⟩
  | .local _ .vmem, ⟨36, _⟩ => ⟨S128x3136, .f32⟩
  | .local _ .vmem, ⟨37, _⟩ => ⟨S1024x3136, .f32⟩
  | .local _ .vmem, ⟨38, _⟩ => ⟨S1x1024, .f32⟩
  | .local _ .vmem, ⟨39, _⟩ => ⟨S10x1024, .f32⟩
  | .local _ .vmem, ⟨40, _⟩ => ⟨S1x10, .f32⟩
  | .local _ .vmem, ⟨41, _⟩ => ⟨S128x10, .f32⟩
  | _, _ => ⟨S128x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg4_0 : Ref sig .tc := ⟨.vmem, 40, rfl⟩
abbrev cc6_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem1_0 : DmaSem sig := 37
abbrev cc6_sem2_0 : DmaSem sig := 38
abbrev cc6_sem3_0 : DmaSem sig := 39
abbrev cc6_sem4_0 : DmaSem sig := 40
abbrev cc6_sem5_0 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x12544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x196 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x196 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x196 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S32x6272 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S25x32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S32x6272 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x128x196 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x196 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x196 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S32x6272 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S25x64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S64x6272 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![64], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x128x49 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x512x49 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x128x49 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x3136 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S1024x3136 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S10x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]
-- ==== ReferenceIdeal.lean ====
abbrev S128x1x28x28 : Shape := ⟨4, ![128, 1, 28, 28]⟩
abbrev S32x1x5x5 : Shape := ⟨4, ![32, 1, 5, 5]⟩
abbrev S32 : Shape := ⟨1, ![32]⟩
abbrev S32x32x5x5 : Shape := ⟨4, ![32, 32, 5, 5]⟩
abbrev S64x32x5x5 : Shape := ⟨4, ![64, 32, 5, 5]⟩
abbrev S64 : Shape := ⟨1, ![64]⟩
abbrev S1024x3136 : Shape := ⟨2, ![1024, 3136]⟩
abbrev S1024 : Shape := ⟨1, ![1024]⟩
abbrev S10x1024 : Shape := ⟨2, ![10, 1024]⟩
abbrev S10 : Shape := ⟨1, ![10]⟩
abbrev S32x512x196 : Shape := ⟨3, ![32, 512, 196]⟩
abbrev S64x512x49 : Shape := ⟨3, ![64, 512, 49]⟩
abbrev S_ : Shape := ⟨0, ![]⟩
abbrev S128x1x32x32 : Shape := ⟨4, ![128, 1, 32, 32]⟩
abbrev S28 : Shape := ⟨1, ![28]⟩
abbrev S28x1 : Shape := ⟨2, ![28, 1]⟩
abbrev S5 : Shape := ⟨1, ![5]⟩
abbrev S1x5 : Shape := ⟨2, ![1, 5]⟩
abbrev S28x5 : Shape := ⟨2, ![28, 5]⟩
abbrev S28x5x1 : Shape := ⟨3, ![28, 5, 1]⟩
abbrev S128x1x28x5x32 : Shape := ⟨5, ![128, 1, 28, 5, 32]⟩
abbrev S128x1x28x5x28x5 : Shape := ⟨6, ![128, 1, 28, 5, 28, 5]⟩
abbrev S32x128x28x28 : Shape := ⟨4, ![32, 128, 28, 28]⟩
abbrev S128x32x28x28 : Shape := ⟨4, ![128, 32, 28, 28]⟩
abbrev S1x32x1x1 : Shape := ⟨4, ![1, 32, 1, 1]⟩
abbrev S128x32x14x14 : Shape := ⟨4, ![128, 32, 14, 14]⟩
abbrev S128x32x196 : Shape := ⟨3, ![128, 32, 196]⟩
abbrev S128x32 : Shape := ⟨2, ![128, 32]⟩
abbrev S128x32x1 : Shape := ⟨3, ![128, 32, 1]⟩
abbrev S32x512x128 : Shape := ⟨3, ![32, 512, 128]⟩
abbrev S128x32x512 : Shape := ⟨3, ![128, 32, 512]⟩
abbrev S1x32 : Shape := ⟨2, ![1, 32]⟩
abbrev S128x32x2 : Shape := ⟨3, ![128, 32, 2]⟩
abbrev S128x32x18x18 : Shape := ⟨4, ![128, 32, 18, 18]⟩
abbrev S14 : Shape := ⟨1, ![14]⟩
abbrev S14x1 : Shape := ⟨2, ![14, 1]⟩
abbrev S14x5 : Shape := ⟨2, ![14, 5]⟩
abbrev S14x5x1 : Shape := ⟨3, ![14, 5, 1]⟩
abbrev S128x32x14x5x18 : Shape := ⟨5, ![128, 32, 14, 5, 18]⟩
abbrev S128x32x14x5x14x5 : Shape := ⟨6, ![128, 32, 14, 5, 14, 5]⟩
abbrev S32x128x14x14 : Shape := ⟨4, ![32, 128, 14, 14]⟩
abbrev S64x128x14x14 : Shape := ⟨4, ![64, 128, 14, 14]⟩
abbrev S128x64x14x14 : Shape := ⟨4, ![128, 64, 14, 14]⟩
abbrev S1x64x1x1 : Shape := ⟨4, ![1, 64, 1, 1]⟩
abbrev S128x64x7x7 : Shape := ⟨4, ![128, 64, 7, 7]⟩
abbrev S128x64x49 : Shape := ⟨3, ![128, 64, 49]⟩
abbrev S128x64 : Shape := ⟨2, ![128, 64]⟩
abbrev S128x64x1 : Shape := ⟨3, ![128, 64, 1]⟩
abbrev S64x512x128 : Shape := ⟨3, ![64, 512, 128]⟩
abbrev S128x64x512 : Shape := ⟨3, ![128, 64, 512]⟩
abbrev S1x64 : Shape := ⟨2, ![1, 64]⟩
abbrev S128x64x2 : Shape := ⟨3, ![128, 64, 2]⟩
abbrev S128x3136 : Shape := ⟨2, ![128, 3136]⟩
abbrev S3136x1024 : Shape := ⟨2, ![3136, 1024]⟩
abbrev S128x1024 : Shape := ⟨2, ![128, 1024]⟩
abbrev S1x1024 : Shape := ⟨2, ![1, 1024]⟩
abbrev S1024x10 : Shape := ⟨2, ![1024, 10]⟩
abbrev S128x10 : Shape := ⟨2, ![128, 10]⟩
abbrev S1x10 : Shape := ⟨2, ![1, 10]⟩

abbrev nBuf : Space → Nat
  | .hbm => 298
  | .vmem => 0
  | .smem => 0
  | _ => 0

abbrev hbmTy0_0 (i : Nat) : BufTy := match i % 128 with
  | 0 => ⟨S128x1x28x28, .f32⟩
  | 1 => ⟨S32x1x5x5, .f32⟩
  | 2 => ⟨S32, .f32⟩
  | 3 => ⟨S32x32x5x5, .f32⟩
  | 4 => ⟨S32, .f32⟩
  | 5 => ⟨S64x32x5x5, .f32⟩
  | 6 => ⟨S64, .f32⟩
  | 7 => ⟨S1024x3136, .f32⟩
  | 8 => ⟨S1024, .f32⟩
  | 9 => ⟨S10x1024, .f32⟩
  | 10 => ⟨S10, .f32⟩
  | 11 => ⟨S32x512x196, .f32⟩
  | 12 => ⟨S32x512x196, .f32⟩
  | 13 => ⟨S64x512x49, .f32⟩
  | 14 => ⟨S_, .i32⟩
  | 15 => ⟨S_, .f32⟩
  | 16 => ⟨S128x1x32x32, .f32⟩
  | 17 => ⟨S28, .i32⟩
  | 18 => ⟨S28x1, .i32⟩
  | 19 => ⟨S5, .i32⟩
  | 20 => ⟨S1x5, .i32⟩
  | 21 => ⟨S28x5, .i32⟩
  | 22 => ⟨S28x5, .i32⟩
  | 23 => ⟨S28x5, .i32⟩
  | 24 => ⟨S28, .i32⟩
  | 25 => ⟨S28x1, .i32⟩
  | 26 => ⟨S5, .i32⟩
  | 27 => ⟨S1x5, .i32⟩
  | 28 => ⟨S28x5, .i32⟩
  | 29 => ⟨S28x5, .i32⟩
  | 30 => ⟨S28x5, .i32⟩
  | 31 => ⟨S_, .i32⟩
  | 32 => ⟨S28x5, .i32⟩
  | 33 => ⟨S28x5, .i1⟩
  | 34 => ⟨S_, .i32⟩
  | 35 => ⟨S28x5, .i32⟩
  | 36 => ⟨S28x5, .i32⟩
  | 37 => ⟨S28x5, .i32⟩
  | 38 => ⟨S28x5x1, .i32⟩
  | 39 => ⟨S128x1x28x5x32, .f32⟩
  | 40 => ⟨S_, .i32⟩
  | 41 => ⟨S28x5, .i32⟩
  | 42 => ⟨S28x5, .i1⟩
  | 43 => ⟨S_, .i32⟩
  | 44 => ⟨S28x5, .i32⟩
  | 45 => ⟨S28x5, .i32⟩
  | 46 => ⟨S28x5, .i32⟩
  | 47 => ⟨S28x5x1, .i32⟩
  | 48 => ⟨S128x1x28x5x28x5, .f32⟩
  | 49 => ⟨S32x128x28x28, .f32⟩
  | 50 => ⟨S128x32x28x28, .f32⟩
  | 51 => ⟨S1x32x1x1, .f32⟩
  | 52 => ⟨S128x32x28x28, .f32⟩
  | 53 => ⟨S128x32x28x28, .f32⟩
  | 54 => ⟨S_, .f32⟩
  | 55 => ⟨S128x32x28x28, .f32⟩
  | 56 => ⟨S128x32x28x28, .f32⟩
  | 57 => ⟨S_, .f32⟩
  | 58 => ⟨S_, .f32⟩
  | 59 => ⟨S128x32x14x14, .f32⟩
  | 60 => ⟨S128x32x196, .f32⟩
  | 61 => ⟨S128x32x196, .f32⟩
  | 62 => ⟨S_, .f32⟩
  | 63 => ⟨S128x32, .f32⟩
  | 64 => ⟨S128x32x1, .f32⟩
  | 65 => ⟨S128x32x1, .f32⟩
  | 66 => ⟨S_, .f32⟩
  | 67 => ⟨S128x32x1, .f32⟩
  | 68 => ⟨S128x32x1, .f32⟩
  | 69 => ⟨S128x32x196, .f32⟩
  | 70 => ⟨S128x32x196, .f32⟩
  | 71 => ⟨S32x512x128, .f32⟩
  | 72 => ⟨S128x32x512, .f32⟩
  | 73 => ⟨S_, .f32⟩
  | 74 => ⟨S128x32x512, .f32⟩
  | 75 => ⟨S128x32x512, .f32⟩
  | 76 => ⟨S128x32x512, .i32⟩
  | 77 => ⟨S_, .f32⟩
  | 78 => ⟨S_, .i32⟩
  | 79 => ⟨S128x32, .f32⟩
  | 80 => ⟨S128x32, .i32⟩
  | 81 => ⟨S32, .i32⟩
  | 82 => ⟨S1x32, .i32⟩
  | 83 => ⟨S_, .i32⟩
  | 84 => ⟨S1x32, .i32⟩
  | 85 => ⟨S1x32, .i1⟩
  | 86 => ⟨S_, .i32⟩
  | 87 => ⟨S1x32, .i32⟩
  | 88 => ⟨S1x32, .i32⟩
  | 89 => ⟨S1x32, .i32⟩
  | 90 => ⟨S_, .i32⟩
  | 91 => ⟨S128x32, .i32⟩
  | 92 => ⟨S128x32, .i1⟩
  | 93 => ⟨S_, .i32⟩
  | 94 => ⟨S128x32, .i32⟩
  | 95 => ⟨S128x32, .i32⟩
  | 96 => ⟨S128x32, .i32⟩
  | 97 => ⟨S128x32, .i32⟩
  | 98 => ⟨S128x32x1, .i32⟩
  | 99 => ⟨S128x32x1, .i32⟩
  | 100 => ⟨S128x32x2, .i32⟩
  | 101 => ⟨S128x32x196, .f32⟩
  | 102 => ⟨S128x32x196, .f32⟩
  | 103 => ⟨S128x32x196, .f32⟩
  | 104 => ⟨S128x32x14x14, .f32⟩
  | 105 => ⟨S_, .i32⟩
  | 106 => ⟨S_, .f32⟩
  | 107 => ⟨S128x32x18x18, .f32⟩
  | 108 => ⟨S14, .i32⟩
  | 109 => ⟨S14x1, .i32⟩
  | 110 => ⟨S5, .i32⟩
  | 111 => ⟨S1x5, .i32⟩
  | 112 => ⟨S14x5, .i32⟩
  | 113 => ⟨S14x5, .i32⟩
  | 114 => ⟨S14x5, .i32⟩
  | 115 => ⟨S14, .i32⟩
  | 116 => ⟨S14x1, .i32⟩
  | 117 => ⟨S5, .i32⟩
  | 118 => ⟨S1x5, .i32⟩
  | 119 => ⟨S14x5, .i32⟩
  | 120 => ⟨S14x5, .i32⟩
  | 121 => ⟨S14x5, .i32⟩
  | 122 => ⟨S_, .i32⟩
  | 123 => ⟨S14x5, .i32⟩
  | 124 => ⟨S14x5, .i1⟩
  | 125 => ⟨S_, .i32⟩
  | 126 => ⟨S14x5, .i32⟩
  | 127 => ⟨S14x5, .i32⟩
  | _ => ⟨S128x1x28x28, .f32⟩

abbrev hbmTy0_1 (i : Nat) : BufTy := match i % 128 with
  | 0 => ⟨S14x5, .i32⟩
  | 1 => ⟨S14x5x1, .i32⟩
  | 2 => ⟨S128x32x14x5x18, .f32⟩
  | 3 => ⟨S_, .i32⟩
  | 4 => ⟨S14x5, .i32⟩
  | 5 => ⟨S14x5, .i1⟩
  | 6 => ⟨S_, .i32⟩
  | 7 => ⟨S14x5, .i32⟩
  | 8 => ⟨S14x5, .i32⟩
  | 9 => ⟨S14x5, .i32⟩
  | 10 => ⟨S14x5x1, .i32⟩
  | 11 => ⟨S128x32x14x5x14x5, .f32⟩
  | 12 => ⟨S32x128x14x14, .f32⟩
  | 13 => ⟨S128x32x14x14, .f32⟩
  | 14 => ⟨S1x32x1x1, .f32⟩
  | 15 => ⟨S128x32x14x14, .f32⟩
  | 16 => ⟨S128x32x14x14, .f32⟩
  | 17 => ⟨S_, .f32⟩
  | 18 => ⟨S128x32x14x14, .f32⟩
  | 19 => ⟨S128x32x14x14, .f32⟩
  | 20 => ⟨S128x32x196, .f32⟩
  | 21 => ⟨S128x32x196, .f32⟩
  | 22 => ⟨S_, .f32⟩
  | 23 => ⟨S128x32, .f32⟩
  | 24 => ⟨S128x32x1, .f32⟩
  | 25 => ⟨S128x32x1, .f32⟩
  | 26 => ⟨S_, .f32⟩
  | 27 => ⟨S128x32x1, .f32⟩
  | 28 => ⟨S128x32x1, .f32⟩
  | 29 => ⟨S128x32x196, .f32⟩
  | 30 => ⟨S128x32x196, .f32⟩
  | 31 => ⟨S32x512x128, .f32⟩
  | 32 => ⟨S128x32x512, .f32⟩
  | 33 => ⟨S_, .f32⟩
  | 34 => ⟨S128x32x512, .f32⟩
  | 35 => ⟨S128x32x512, .f32⟩
  | 36 => ⟨S128x32x512, .i32⟩
  | 37 => ⟨S_, .f32⟩
  | 38 => ⟨S_, .i32⟩
  | 39 => ⟨S128x32, .f32⟩
  | 40 => ⟨S128x32, .i32⟩
  | 41 => ⟨S32, .i32⟩
  | 42 => ⟨S1x32, .i32⟩
  | 43 => ⟨S_, .i32⟩
  | 44 => ⟨S1x32, .i32⟩
  | 45 => ⟨S1x32, .i1⟩
  | 46 => ⟨S_, .i32⟩
  | 47 => ⟨S1x32, .i32⟩
  | 48 => ⟨S1x32, .i32⟩
  | 49 => ⟨S1x32, .i32⟩
  | 50 => ⟨S_, .i32⟩
  | 51 => ⟨S128x32, .i32⟩
  | 52 => ⟨S128x32, .i1⟩
  | 53 => ⟨S_, .i32⟩
  | 54 => ⟨S128x32, .i32⟩
  | 55 => ⟨S128x32, .i32⟩
  | 56 => ⟨S128x32, .i32⟩
  | 57 => ⟨S128x32, .i32⟩
  | 58 => ⟨S128x32x1, .i32⟩
  | 59 => ⟨S128x32x1, .i32⟩
  | 60 => ⟨S128x32x2, .i32⟩
  | 61 => ⟨S128x32x196, .f32⟩
  | 62 => ⟨S128x32x196, .f32⟩
  | 63 => ⟨S128x32x196, .f32⟩
  | 64 => ⟨S128x32x14x14, .f32⟩
  | 65 => ⟨S_, .i32⟩
  | 66 => ⟨S_, .f32⟩
  | 67 => ⟨S128x32x18x18, .f32⟩
  | 68 => ⟨S14, .i32⟩
  | 69 => ⟨S14x1, .i32⟩
  | 70 => ⟨S5, .i32⟩
  | 71 => ⟨S1x5, .i32⟩
  | 72 => ⟨S14x5, .i32⟩
  | 73 => ⟨S14x5, .i32⟩
  | 74 => ⟨S14x5, .i32⟩
  | 75 => ⟨S14, .i32⟩
  | 76 => ⟨S14x1, .i32⟩
  | 77 => ⟨S5, .i32⟩
  | 78 => ⟨S1x5, .i32⟩
  | 79 => ⟨S14x5, .i32⟩
  | 80 => ⟨S14x5, .i32⟩
  | 81 => ⟨S14x5, .i32⟩
  | 82 => ⟨S_, .i32⟩
  | 83 => ⟨S14x5, .i32⟩
  | 84 => ⟨S14x5, .i1⟩
  | 85 => ⟨S_, .i32⟩
  | 86 => ⟨S14x5, .i32⟩
  | 87 => ⟨S14x5, .i32⟩
  | 88 => ⟨S14x5, .i32⟩
  | 89 => ⟨S14x5x1, .i32⟩
  | 90 => ⟨S128x32x14x5x18, .f32⟩
  | 91 => ⟨S_, .i32⟩
  | 92 => ⟨S14x5, .i32⟩
  | 93 => ⟨S14x5, .i1⟩
  | 94 => ⟨S_, .i32⟩
  | 95 => ⟨S14x5, .i32⟩
  | 96 => ⟨S14x5, .i32⟩
  | 97 => ⟨S14x5, .i32⟩
  | 98 => ⟨S14x5x1, .i32⟩
  | 99 => ⟨S128x32x14x5x14x5, .f32⟩
  | 100 => ⟨S64x128x14x14, .f32⟩
  | 101 => ⟨S128x64x14x14, .f32⟩
  | 102 => ⟨S1x64x1x1, .f32⟩
  | 103 => ⟨S128x64x14x14, .f32⟩
  | 104 => ⟨S128x64x14x14, .f32⟩
  | 105 => ⟨S_, .f32⟩
  | 106 => ⟨S128x64x14x14, .f32⟩
  | 107 => ⟨S128x64x14x14, .f32⟩
  | 108 => ⟨S_, .f32⟩
  | 109 => ⟨S_, .f32⟩
  | 110 => ⟨S128x64x7x7, .f32⟩
  | 111 => ⟨S128x64x49, .f32⟩
  | 112 => ⟨S128x64x49, .f32⟩
  | 113 => ⟨S_, .f32⟩
  | 114 => ⟨S128x64, .f32⟩
  | 115 => ⟨S128x64x1, .f32⟩
  | 116 => ⟨S128x64x1, .f32⟩
  | 117 => ⟨S_, .f32⟩
  | 118 => ⟨S128x64x1, .f32⟩
  | 119 => ⟨S128x64x1, .f32⟩
  | 120 => ⟨S128x64x49, .f32⟩
  | 121 => ⟨S128x64x49, .f32⟩
  | 122 => ⟨S64x512x128, .f32⟩
  | 123 => ⟨S128x64x512, .f32⟩
  | 124 => ⟨S_, .f32⟩
  | 125 => ⟨S128x64x512, .f32⟩
  | 126 => ⟨S128x64x512, .f32⟩
  | 127 => ⟨S128x64x512, .i32⟩
  | _ => ⟨S128x1x28x28, .f32⟩

abbrev hbmTy0_2 (i : Nat) : BufTy := match i % 128 with
  | 0 => ⟨S_, .f32⟩
  | 1 => ⟨S_, .i32⟩
  | 2 => ⟨S128x64, .f32⟩
  | 3 => ⟨S128x64, .i32⟩
  | 4 => ⟨S64, .i32⟩
  | 5 => ⟨S1x64, .i32⟩
  | 6 => ⟨S_, .i32⟩
  | 7 => ⟨S1x64, .i32⟩
  | 8 => ⟨S1x64, .i1⟩
  | 9 => ⟨S_, .i32⟩
  | 10 => ⟨S1x64, .i32⟩
  | 11 => ⟨S1x64, .i32⟩
  | 12 => ⟨S1x64, .i32⟩
  | 13 => ⟨S_, .i32⟩
  | 14 => ⟨S128x64, .i32⟩
  | 15 => ⟨S128x64, .i1⟩
  | 16 => ⟨S_, .i32⟩
  | 17 => ⟨S128x64, .i32⟩
  | 18 => ⟨S128x64, .i32⟩
  | 19 => ⟨S128x64, .i32⟩
  | 20 => ⟨S128x64, .i32⟩
  | 21 => ⟨S128x64x1, .i32⟩
  | 22 => ⟨S128x64x1, .i32⟩
  | 23 => ⟨S128x64x2, .i32⟩
  | 24 => ⟨S128x64x49, .f32⟩
  | 25 => ⟨S128x64x49, .f32⟩
  | 26 => ⟨S128x64x49, .f32⟩
  | 27 => ⟨S128x64x7x7, .f32⟩
  | 28 => ⟨S128x3136, .f32⟩
  | 29 => ⟨S3136x1024, .f32⟩
  | 30 => ⟨S128x1024, .f32⟩
  | 31 => ⟨S1x1024, .f32⟩
  | 32 => ⟨S128x1024, .f32⟩
  | 33 => ⟨S128x1024, .f32⟩
  | 34 => ⟨S_, .f32⟩
  | 35 => ⟨S128x1024, .f32⟩
  | 36 => ⟨S128x1024, .f32⟩
  | 37 => ⟨S1024x10, .f32⟩
  | 38 => ⟨S128x10, .f32⟩
  | 39 => ⟨S1x10, .f32⟩
  | 40 => ⟨S128x10, .f32⟩
  | 41 => ⟨S128x10, .f32⟩
  | _ => ⟨S128x1x28x28, .f32⟩

abbrev hbmTy (i : Nat) : BufTy := match i / 128 with
  | 0 => hbmTy0_0 i
  | 1 => hbmTy0_1 i
  | 2 => hbmTy0_2 i
  | _ => ⟨S128x1x28x28, .f32⟩

abbrev bufTy : (tb : Table) → Fin (tcTables nBuf tb) → BufTy
  | .hbm, ⟨i, _⟩ => hbmTy i
  | _, _ => ⟨S128x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_cst : Ref sig .tc := ⟨.hbm, 54, rfl⟩
abbrev main_call1_v0 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_call2_v0 : Ref sig .tc := ⟨.hbm, 76, rfl⟩
abbrev main_call2_cst : Ref sig .tc := ⟨.hbm, 77, rfl⟩
abbrev main_call2_c : Ref sig .tc := ⟨.hbm, 78, rfl⟩
abbrev main_call2_v1_0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_7 : Ref sig .tc := ⟨.hbm, 83, rfl⟩
abbrev main_v53 : Ref sig .tc := ⟨.hbm, 84, rfl⟩
abbrev main_v54 : Ref sig .tc := ⟨.hbm, 85, rfl⟩
abbrev main_c_8 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_9 : Ref sig .tc := ⟨.hbm, 90, rfl⟩
abbrev main_v58 : Ref sig .tc := ⟨.hbm, 91, rfl⟩
abbrev main_v59 : Ref sig .tc := ⟨.hbm, 92, rfl⟩
abbrev main_c_10 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_11 : Ref sig .tc := ⟨.hbm, 105, rfl⟩
abbrev main_call3_v0 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_12 : Ref sig .tc := ⟨.hbm, 122, rfl⟩
abbrev main_v86 : Ref sig .tc := ⟨.hbm, 123, rfl⟩
abbrev main_v87 : Ref sig .tc := ⟨.hbm, 124, rfl⟩
abbrev main_c_13 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_14 : Ref sig .tc := ⟨.hbm, 131, rfl⟩
abbrev main_v93 : Ref sig .tc := ⟨.hbm, 132, rfl⟩
abbrev main_v94 : Ref sig .tc := ⟨.hbm, 133, rfl⟩
abbrev main_c_15 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call4_cst : Ref sig .tc := ⟨.hbm, 145, rfl⟩
abbrev main_call4_v0 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_16 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_17 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_18 : Ref sig .tc := ⟨.hbm, 161, rfl⟩
abbrev main_v117 : Ref sig .tc := ⟨.hbm, 162, rfl⟩
abbrev main_v118 : Ref sig .tc := ⟨.hbm, 163, rfl⟩
abbrev main_call5_v0 : Ref sig .tc := ⟨.hbm, 164, rfl⟩
abbrev main_call5_cst : Ref sig .tc := ⟨.hbm, 165, rfl⟩
abbrev main_call5_c : Ref sig .tc := ⟨.hbm, 166, rfl⟩
abbrev main_call5_v1_0 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_c_19 : Ref sig .tc := ⟨.hbm, 171, rfl⟩
abbrev main_v122 : Ref sig .tc := ⟨.hbm, 172, rfl⟩
abbrev main_v123 : Ref sig .tc := ⟨.hbm, 173, rfl⟩
abbrev main_c_20 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_21 : Ref sig .tc := ⟨.hbm, 178, rfl⟩
abbrev main_v127 : Ref sig .tc := ⟨.hbm, 179, rfl⟩
abbrev main_v128 : Ref sig .tc := ⟨.hbm, 180, rfl⟩
abbrev main_c_22 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_c_23 : Ref sig .tc := ⟨.hbm, 193, rfl⟩
abbrev main_call6_v0 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_c_24 : Ref sig .tc := ⟨.hbm, 210, rfl⟩
abbrev main_v155 : Ref sig .tc := ⟨.hbm, 211, rfl⟩
abbrev main_v156 : Ref sig .tc := ⟨.hbm, 212, rfl⟩
abbrev main_c_25 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_c_26 : Ref sig .tc := ⟨.hbm, 219, rfl⟩
abbrev main_v162 : Ref sig .tc := ⟨.hbm, 220, rfl⟩
abbrev main_v163 : Ref sig .tc := ⟨.hbm, 221, rfl⟩
abbrev main_c_27 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_call7_cst : Ref sig .tc := ⟨.hbm, 233, rfl⟩
abbrev main_call7_v0 : Ref sig .tc := ⟨.hbm, 234, rfl⟩
abbrev main_v174 : Ref sig .tc := ⟨.hbm, 235, rfl⟩
abbrev main_cst_28 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_cst_29 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_cst_30 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_cst_31 : Ref sig .tc := ⟨.hbm, 252, rfl⟩
abbrev main_v188 : Ref sig .tc := ⟨.hbm, 253, rfl⟩
abbrev main_v189 : Ref sig .tc := ⟨.hbm, 254, rfl⟩
abbrev main_call8_v0 : Ref sig .tc := ⟨.hbm, 255, rfl⟩
abbrev main_call8_cst : Ref sig .tc := ⟨.hbm, 256, rfl⟩
abbrev main_call8_c : Ref sig .tc := ⟨.hbm, 257, rfl⟩
abbrev main_call8_v1_0 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_c_32 : Ref sig .tc := ⟨.hbm, 262, rfl⟩
abbrev main_v193 : Ref sig .tc := ⟨.hbm, 263, rfl⟩
abbrev main_v194 : Ref sig .tc := ⟨.hbm, 264, rfl⟩
abbrev main_c_33 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_c_34 : Ref sig .tc := ⟨.hbm, 269, rfl⟩
abbrev main_v198 : Ref sig .tc := ⟨.hbm, 270, rfl⟩
abbrev main_v199 : Ref sig .tc := ⟨.hbm, 271, rfl⟩
abbrev main_c_35 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_call9_cst : Ref sig .tc := ⟨.hbm, 290, rfl⟩
abbrev main_call9_v0 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩

abbrev nD : Nat := 1
abbrev τ : Topo := Topo.v7x

variable {F : FTy → Type} [FloatOps F]
-- ==== Proof.RunK.lean ====
/- The kernel program's run: at the end every array lies as the fold of the seven regions and the host stretches between
   them leaves it. The launch set-up is the one of the generated frame, read here at all arrays instead of the arguments. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program ends with every array of the core holding what the fold of its regions leaves there. -/
theorem run : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => h)

/-- The result array at the end of the run. -/
theorem run_result : θ_run defs (onTc (τ := τ) (main (F := F))) ⟨m, fun _ => 0, ρ⟩ (fun r => ∀ c : Dev nD,
      r.2.mem ((c.tc : Thread nD τ).loc main_v28) = W14 m ρ c (Proc.devRef .tc main_v28)) :=
  (θ_run defs _ _).mono (fun _ h c => h c _ (mem_uc main_v28 (by decide))) (run m ρ)

end Cert.KernelIdeal.Val

end
-- ==== Proof.Spec.lean ====
/- The mathematics of the network over the extended reals, stage by stage, for one image: what both programs compute. -/
module

public import Idealize.ShloMosaic.PureOps.Ideal.Laws

@[expose] public section

noncomputable section

namespace Cert.Spec

open Idealize.ShloMosaic

/-- The image `X` surrounded by two rows and columns of zeros, read at a padded position. -/
def padded {H W : ℕ} (X : Fin H → Fin W → EReal) (p q : ℕ) : EReal :=
  if h : (2 ≤ p ∧ p < H + 2) ∧ (2 ≤ q ∧ q < W + 2) then X ⟨p - 2, by omega⟩ ⟨q - 2, by omega⟩ else 0

/-- One output channel of the 5 by 5 convolution of the channels `X` with zero padding, plus its offset, cut off at zero. -/
def convRelu {C H W : ℕ} (X : Fin C → Fin H → Fin W → EReal) (w : Fin C → Fin 5 → Fin 5 → EReal) (β : EReal) (i j : ℕ) : EReal :=
  max ((∑ c : Fin C, ∑ u : Fin 5, ∑ v : Fin 5, padded (X c) (i + u) (j + v) * w c u v) + β) 0

/-- The largest of the four entries of a 2 by 2 window. -/
def pool (Y : ℕ → ℕ → EReal) (i j : ℕ) : EReal :=
  max (max (Y (2 * i) (2 * j)) (Y (2 * i) (2 * j + 1))) (max (Y (2 * i + 1) (2 * j)) (Y (2 * i + 1) (2 * j + 1)))

/-- A vector divided by its length, the length being at least a small constant. -/
def xnorm {D : ℕ} (x : Fin D → EReal) (d : Fin D) : EReal :=
  Ideal.div (x d) (max (Ideal.sqrt (∑ e : Fin D, x e * x e)) (Ideal.ofBits .f32 0x2B8CBCCC#32))

/-- One minus the inner product of a vector with each code. -/
def dist {D N : ℕ} (y : Fin D → EReal) (cb : Fin N → Fin D → EReal) (k : Fin N) : EReal :=
  1 - ∑ e : Fin D, y e * cb k e

/-- `k` is the first index at which `d` is least. -/
def IsNearest {N : ℕ} (d : Fin N → EReal) (k : Fin N) : Prop := (∀ j, d k ≤ d j) ∧ ∀ j, j < k → d k < d j

/-- At most one index is the first one at which `d` is least. -/
theorem IsNearest.unique {N : ℕ} {d : Fin N → EReal} {k l : Fin N} (hk : IsNearest d k) (hl : IsNearest d l) : k = l := by
  rcases lt_trichotomy k l with h | h | h
  · exact absurd (hk.1 l) (not_le.mpr (hl.2 k h))
  · exact h
  · exact absurd (hl.1 k) (not_le.mpr (hk.2 l h))

/-- There is a first index at which `d` is least. -/
theorem exists_isNearest {N : ℕ} [NeZero N] (d : Fin N → EReal) : ∃ k, IsNearest d k := by
  classical
  obtain ⟨k₀, -, h₀⟩ := Finset.exists_min_image Finset.univ d ⟨0, Finset.mem_univ _⟩
  have hne : (Finset.univ.filter fun k => ∀ j, d k ≤ d j).Nonempty := ⟨k₀, by simpa using fun j => h₀ j (Finset.mem_univ j)⟩
  refine ⟨(Finset.univ.filter fun k => ∀ j, d k ≤ d j).min' hne, ?_, fun j hj => ?_⟩
  · exact (Finset.mem_filter.mp (Finset.min'_mem _ hne)).2
  · have hmin := (Finset.mem_filter.mp (Finset.min'_mem _ hne)).2
    by_contra hle
    have : j ∈ Finset.univ.filter fun k => ∀ j, d k ≤ d j :=
      Finset.mem_filter.mpr ⟨Finset.mem_univ _, fun i => (not_lt.mp hle).trans (hmin i)⟩
    exact absurd (Finset.min'_le _ _ this) (not_le.mpr hj)

/-- The first index at which `d` is least. -/
def nearest {N : ℕ} [NeZero N] (d : Fin N → EReal) : Fin N := (exists_isNearest d).choose

/-- `nearest` is the first index at which `d` is least. -/
theorem nearest_spec {N : ℕ} [NeZero N] (d : Fin N → EReal) : IsNearest d (nearest d) := (exists_isNearest d).choose_spec

/-- An index known to be the first at which `d` is least is the one `nearest` gives. -/
theorem nearest_eq {N : ℕ} [NeZero N] {d : Fin N → EReal} {k : Fin N} (h : IsNearest d k) : nearest d = k :=
  (exists_isNearest d).choose_spec.unique h

/-- The code whose direction is nearest to that of `x`. -/
def knn {D N : ℕ} [NeZero N] (x : Fin D → EReal) (cb : Fin N → Fin D → EReal) (d : Fin D) : EReal :=
  cb (nearest (dist (xnorm x) cb)) d

/-- A dense layer cut off at zero, then a dense layer. -/
def fc {A B C : ℕ} (h : Fin A → EReal) (w1 : Fin B → Fin A → EReal) (b1 : Fin B → EReal) (w2 : Fin C → Fin B → EReal)
    (b2 : Fin C → EReal) (o : Fin C) : EReal :=
  (∑ k : Fin B, max ((∑ f : Fin A, h f * w1 k f) + b1 k) 0 * w2 o k) + b2 o

end Cert.Spec

end
-- ==== Proof.KnnK.lean ====
/- One block of a nearest-code kernel: for each image the code nearest to its direction. -/
module

public import proofs.«01_k».proof.Proof.Gen.KernelIdeal.Frame
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Val

open Idealize.ShloMosaic Idealize.ShloMosaic.Tactic
open Cert.KernelIdeal Cert.KernelIdeal.Gen Cert.Spec

/-- The least of finitely many values is the value at the nearest index. -/
theorem fold_min_eq (d : Fin 512 → EReal) :
    Finset.fold min (Ideal.ofBits .f32 2139095040#32) d Finset.univ = d (nearest d) := by
  have htop : Ideal.ofBits .f32 2139095040#32 = ⊤ := by simp [Ideal.ofBits, Ideal.ieee]
  have h := nearest_spec d
  rw [htop]
  refine le_antisymm ?_ ?_
  · rw [Finset.fold_min_le]; exact Or.inr ⟨_, Finset.mem_univ _, le_rfl⟩
  · rw [Finset.le_fold_min]; exact ⟨le_top, fun k _ => h.1 k⟩

/-- A signed least of two words is at least a third when both are. -/
theorem le_minsi {x y z : BitVec 32} : x.toInt ≤ (IntOp.minsi y z).toInt ↔ x.toInt ≤ y.toInt ∧ x.toInt ≤ z.toInt := by
  unfold IntOp.minsi
  split <;> rename_i h <;> simp only [BitVec.slt, BitVec.sle, decide_eq_true_eq] at h <;> omega

/-- The signed value of a small number. -/
theorem toInt_small (n : ℕ) (h : n < 2 ^ 31) : (BitVec.ofNat 32 n).toInt = n := by
  rw [BitVec.toInt_ofNat']
  rw [Int.bmod_def]
  omega

/-- The least index whose value is the least is the nearest index. -/
theorem fold_minsi_eq (d : Fin 512 → EReal) :
    Finset.fold IntOp.minsi 2147483647#32 (fun k => if d k = d (nearest d) then BitVec.ofNat 32 k.val else 512#32) Finset.univ
      = BitVec.ofNat 32 (nearest d).val := by
  have h := nearest_spec d
  have hle : ∀ c : BitVec 32, c.toInt ≤ (Finset.fold IntOp.minsi 2147483647#32
      (fun k => if d k = d (nearest d) then BitVec.ofNat 32 k.val else 512#32) Finset.univ).toInt ↔ _ :=
    fun c => Finset.fold_op_rel_iff_and (r := fun x y : BitVec 32 => x.toInt ≤ y.toInt) (fun {x y z} => le_minsi)
  refine BitVec.eq_of_toInt_eq (le_antisymm ?_ ?_)
  · have := ((hle _).mp le_rfl).2 (nearest d) (Finset.mem_univ _)
    rwa [if_pos rfl] at this
  · refine (hle _).mpr ⟨?_, fun k _ => ?_⟩
    · rw [toInt_small _ (by omega)]
      have := (nearest d).isLt
      have e : (2147483647#32 : BitVec 32).toInt = 2147483647 := by decide
      omega
    · split
      · rename_i hk
        rw [toInt_small _ (by omega), toInt_small _ (by omega)]
        by_contra hlt
        have : k < nearest d := by rw [Fin.lt_def]; omega
        exact absurd (h.2 k this) (by rw [hk]; exact lt_irrefl _)
      · rw [toInt_small _ (by omega)]
        have := (nearest d).isLt
        have e : (512#32 : BitVec 32).toInt = 512 := by decide
        omega

/-- A row of zeros with a single one at `n` picks the entry at `n`. -/
theorem sum_onehot (n : Fin 512) (f : Fin 512 → EReal) :
    ∑ k : Fin 512, (FloatOps.sitofp .f32 (BitVec.setWidth 32 (IntOp.cmpi .eq (BitVec.ofNat 32 k.val) (BitVec.ofNat 32 n.val))) : Ideal .f32) * f k = f n := by
  have e : ∀ k : Fin 512, (FloatOps.sitofp .f32 (BitVec.setWidth 32 (IntOp.cmpi .eq (BitVec.ofNat 32 k.val) (BitVec.ofNat 32 n.val))) : Ideal .f32)
      = (if k = n then (1 : EReal) else 0) := by
    intro k
    by_cases hk : k = n
    · subst hk
      rw [if_pos rfl, show IntOp.cmpi .eq (BitVec.ofNat 32 k.val) (BitVec.ofNat 32 k.val) = 1#1 by simp [IntOp.cmpi]]
      show ((((BitVec.setWidth 32 1#1).toInt : ℤ) : ℝ) : EReal) = 1
      norm_num
    · have hne : (BitVec.ofNat 32 k.val) ≠ (BitVec.ofNat 32 n.val) := by
        intro hh
        have := congrArg BitVec.toNat hh
        simp only [BitVec.toNat_ofNat] at this
        exact hk (Fin.ext (by omega))
      rw [if_neg hk, show IntOp.cmpi .eq (BitVec.ofNat 32 k.val) (BitVec.ofNat 32 n.val) = 0#1 by
        show BitVec.ofBool (BitVec.ofNat 32 k.val == BitVec.ofNat 32 n.val) = 0#1
        rw [beq_eq_false_iff_ne.mpr hne]; rfl]
      show ((((BitVec.setWidth 32 0#1).toInt : ℤ) : ℝ) : EReal) = 0
      norm_num
  rw [Finset.sum_congr rfl fun k _ => congrArg (· * f k) (e k)]
  rw [Finset.sum_eq_single n (fun k _ hk => by rw [if_neg hk, zero_mul]) (fun h => absurd (Finset.mem_univ _) h), if_pos rfl, one_mul]

/-- The kernel's choice of a code is the nearest code. -/
theorem pick_eq (d : Fin 512 → EReal) (f : Fin 512 → EReal) :
    ∑ k : Fin 512, (FloatOps.sitofp .f32 (BitVec.setWidth 32 (IntOp.cmpi .eq (BitVec.ofNat 32 k.val)
      (Finset.fold IntOp.minsi 2147483647#32 (fun k => if d k = Finset.fold min (Ideal.ofBits .f32 2139095040#32) d Finset.univ
        then BitVec.ofNat 32 k.val else 512#32) Finset.univ))) : Ideal .f32) * f k = f (nearest d) := by
  rw [fold_min_eq, fold_minsi_eq, sum_onehot]

/-- One block of the first nearest-code kernel. -/
theorem knn1_apply (x : FVec Ideal S1x128x196 .f32) (cb : FVec Ideal S1x512x196 .f32) (b : Fin 128) (d : Fin 196) :
    (k1_pay1 (F := Ideal) x cb (ix3 (0 : Fin 1) b d) : EReal)
      = knn (fun e => x (ix3 (0 : Fin 1) b e)) (fun k e => cb (ix3 (0 : Fin 1) k e)) d := by
  pointwise [k1_pay1]
  exact pick_eq (dist (xnorm fun e => x (ix3 (0 : Fin 1) b e)) fun k e => cb (ix3 (0 : Fin 1) k e)) fun k => cb (ix3 (0 : Fin 1) k d)

/-- One block of the second nearest-code kernel. -/
theorem knn3_apply (x : FVec Ideal S1x128x196 .f32) (cb : FVec Ideal S1x512x196 .f32) (b : Fin 128) (d : Fin 196) :
    (k3_pay1 (F := Ideal) x cb (ix3 (0 : Fin 1) b d) : EReal)
      = knn (fun e => x (ix3 (0 : Fin 1) b e)) (fun k e => cb (ix3 (0 : Fin 1) k e)) d := by
  pointwise [k3_pay1]
  exact pick_eq (dist (xnorm fun e => x (ix3 (0 : Fin 1) b e)) fun k e => cb (ix3 (0 : Fin 1) k e)) fun k => cb (ix3 (0 : Fin 1) k d)

/-- One block of the third nearest-code kernel. -/
theorem knn5_apply (x : FVec Ideal S1x128x49 .f32) (cb : FVec Ideal S1x512x49 .f32) (b : Fin 128) (d : Fin 49) :
    (k5_pay1 (F := Ideal) x cb (ix3 (0 : Fin 1) b d) : EReal)
      = knn (fun e => x (ix3 (0 : Fin 1) b e)) (fun k e => cb (ix3 (0 : Fin 1) k e)) d := by
  pointwise [k5_pay1]
  exact pick_eq (dist (xnorm fun e => x (ix3 (0 : Fin 1) b e)) fun k e => cb (ix3 (0 : Fin 1) k e)) fun k => cb (ix3 (0 : Fin 1) k d)

end Cert.KernelIdeal.Val

end
-- ==== Proof.ArrKnn.lean ====
/- What the arrays of the three nearest-code kernels hold when their pipelines have run. -/
module

public import proofs.«01_k».proof.Proof.KnnK

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Spec

variable (V : (c : Dev nD) → (b : Ref sig .tc) → Buf (Elt Ideal) ((c : Thread nD τ).loc b)) (c : Dev nD)

/-- The block of the first nearest-code kernel's vectors at a point of the grid. -/
theorem idx1_0 : ∀ t : Fin cfg1.N, win1_0.index t = ![t.val, 0, 0] := (by decide +kernel : ∀ t : Fin grid1.N, _)
/-- The block of the first nearest-code kernel's codes at a point of the grid. -/
theorem idx1_1 : ∀ t : Fin cfg1.N, win1_1.index t = ![t.val, 0, 0] := (by decide +kernel : ∀ t : Fin grid1.N, _)
/-- The block of the first nearest-code kernel's result at a point of the grid. -/
theorem idx1_2 : ∀ t : Fin cfg1.N, win1_2.index t = ![t.val, 0, 0] := (by decide +kernel : ∀ t : Fin grid1.N, _)

/-- The first nearest-code kernel's array: each vector's nearest code. -/
theorem arr1 (o : Fin 32) (b : Fin 128) (d : Fin 196) :
    ((dat1 V c).arrAt 2 cfg1.N : FVec Ideal S32x128x196 .f32) (ix3 o b d)
      = knn (fun e => (V c main_v6 : FVec Ideal S32x128x196 .f32) (ix3 o b e))
        (fun k e => (V c main_arg11 : FVec Ideal S32x512x196 .f32) (ix3 o k e)) d := by
  refine (dat1 V c).arrAt_forall_of_covers 2 (fun y v => ∀ (o : Fin 32) (b : Fin 128) (d : Fin 196), y = ix3 o b d →
    v = knn (fun e => (V c main_v6 : FVec Ideal S32x128x196 .f32) (ix3 o b e))
        (fun k e => (V c main_arg11 : FVec Ideal S32x512x196 .f32) (ix3 o k e)) d) (by decide +kernel) (fun t hf y => ?_) (ix3 o b d) (by first | exact Memref.isWhole_whole _ | assumption) o b d rfl
  intro o b d hy
  blk_simp
  rw [after1_2]
  frame_out
  have h0 := congrArg Fin.val (congrFun hy 0)
  have h1 := congrArg Fin.val (congrFun hy 1)
  have h2 := congrArg Fin.val (congrFun hy 2)
  blk_simp [idx1_2] at h0 h1 h2
  have hyy : y = ix3 (0 : Fin 1) b d := by
    funext a
    match a with
    | ⟨0, _⟩ => exact Subsingleton.elim (α := Fin 1) _ _
    | ⟨1, _⟩ => exact Fin.ext h1
    | ⟨2, _⟩ => exact Fin.ext h2
  rw [hyy]
  refine (knn1_apply (iblk1 V c 0 t) (iblk1 V c 1 t) b d).trans ?_
  have e0 : ∀ e, iblk1 V c 0 t (ix3 (0 : Fin 1) b e) = V c main_v6 (ix3 o b e) := by
    intro e
    blk_simp [iblk1]
    refine congrArg (V c main_v6) ?_
    blk_ext [idx1_0]
  have e1 : ∀ k e, iblk1 V c 1 t (ix3 (0 : Fin 1) k e) = V c main_arg11 (ix3 o k e) := by
    intro k e
    blk_simp [iblk1]
    refine congrArg (V c main_arg11) ?_
    blk_ext [idx1_1]
  simp only [e0, e1]

/-- The block of the second nearest-code kernel's vectors at a point of the grid. -/
theorem idx3_0 : ∀ t : Fin cfg3.N, win3_0.index t = ![t.val, 0, 0] := (by decide +kernel : ∀ t : Fin grid3.N, _)
/-- The block of the second nearest-code kernel's codes at a point of the grid. -/
theorem idx3_1 : ∀ t : Fin cfg3.N, win3_1.index t = ![t.val, 0, 0] := (by decide +kernel : ∀ t : Fin grid3.N, _)
/-- The block of the second nearest-code kernel's result at a point of the grid. -/
theorem idx3_2 : ∀ t : Fin cfg3.N, win3_2.index t = ![t.val, 0, 0] := (by decide +kernel : ∀ t : Fin grid3.N, _)

/-- The second nearest-code kernel's array: each vector's nearest code. -/
theorem arr3 (o : Fin 32) (b : Fin 128) (d : Fin 196) :
    ((dat3 V c).arrAt 2 cfg3.N : FVec Ideal S32x128x196 .f32) (ix3 o b d)
      = knn (fun e => (V c main_v13 : FVec Ideal S32x128x196 .f32) (ix3 o b e))
        (fun k e => (V c main_arg12 : FVec Ideal S32x512x196 .f32) (ix3 o k e)) d := by
  refine (dat3 V c).arrAt_forall_of_covers 2 (fun y v => ∀ (o : Fin 32) (b : Fin 128) (d : Fin 196), y = ix3 o b d →
    v = knn (fun e => (V c main_v13 : FVec Ideal S32x128x196 .f32) (ix3 o b e))
        (fun k e => (V c main_arg12 : FVec Ideal S32x512x196 .f32) (ix3 o k e)) d) (by decide +kernel) (fun t hf y => ?_) (ix3 o b d) (by first | exact Memref.isWhole_whole _ | assumption) o b d rfl
  intro o b d hy
  blk_simp
  rw [after3_2]
  frame_out
  have h0 := congrArg Fin.val (congrFun hy 0)
  have h1 := congrArg Fin.val (congrFun hy 1)
  have h2 := congrArg Fin.val (congrFun hy 2)
  blk_simp [idx3_2] at h0 h1 h2
  have hyy : y = ix3 (0 : Fin 1) b d := by
    funext a
    match a with
    | ⟨0, _⟩ => exact Subsingleton.elim (α := Fin 1) _ _
    | ⟨1, _⟩ => exact Fin.ext h1
    | ⟨2, _⟩ => exact Fin.ext h2
  rw [hyy]
  refine (knn3_apply (iblk3 V c 0 t) (iblk3 V c 1 t) b d).trans ?_
  have e0 : ∀ e, iblk3 V c 0 t (ix3 (0 : Fin 1) b e) = V c main_v13 (ix3 o b e) := by
    intro e
    blk_simp [iblk3]
    refine congrArg (V c main_v13) ?_
    blk_ext [idx3_0]
  have e1 : ∀ k e, iblk3 V c 1 t (ix3 (0 : Fin 1) k e) = V c main_arg12 (ix3 o k e) := by
    intro k e
    blk_simp [iblk3]
    refine congrArg (V c main_arg12) ?_
    blk_ext [idx3_1]
  simp only [e0, e1]

/-- The block of the third nearest-code kernel's vectors at a point of the grid. -/
theorem idx5_0 : ∀ t : Fin cfg5.N, win5_0.index t = ![t.val, 0, 0] := (by decide +kernel : ∀ t : Fin grid5.N, _)
/-- The block of the third nearest-code kernel's codes at a point of the grid. -/
theorem idx5_1 : ∀ t : Fin cfg5.N, win5_1.index t = ![t.val, 0, 0] := (by decide +kernel : ∀ t : Fin grid5.N, _)
/-- The block of the third nearest-code kernel's result at a point of the grid. -/
theorem idx5_2 : ∀ t : Fin cfg5.N, win5_2.index t = ![t.val, 0, 0] := (by decide +kernel : ∀ t : Fin grid5.N, _)

/-- The third nearest-code kernel's array: each vector's nearest code. -/
theorem arr5 (o : Fin 64) (b : Fin 128) (d : Fin 49) :
    ((dat5 V c).arrAt 2 cfg5.N : FVec Ideal S64x128x49 .f32) (ix3 o b d)
      = knn (fun e => (V c main_v22 : FVec Ideal S64x128x49 .f32) (ix3 o b e))
        (fun k e => (V c main_arg13 : FVec Ideal S64x512x49 .f32) (ix3 o k e)) d := by
  refine (dat5 V c).arrAt_forall_of_covers 2 (fun y v => ∀ (o : Fin 64) (b : Fin 128) (d : Fin 49), y = ix3 o b d →
    v = knn (fun e => (V c main_v22 : FVec Ideal S64x128x49 .f32) (ix3 o b e))
        (fun k e => (V c main_arg13 : FVec Ideal S64x512x49 .f32) (ix3 o k e)) d) (by decide +kernel) (fun t hf y => ?_) (ix3 o b d) (by first | exact Memref.isWhole_whole _ | assumption) o b d rfl
  intro o b d hy
  blk_simp
  rw [after5_2]
  frame_out
  have h0 := congrArg Fin.val (congrFun hy 0)
  have h1 := congrArg Fin.val (congrFun hy 1)
  have h2 := congrArg Fin.val (congrFun hy 2)
  blk_simp [idx5_2] at h0 h1 h2
  have hyy : y = ix3 (0 : Fin 1) b d := by
    funext a
    match a with
    | ⟨0, _⟩ => exact Subsingleton.elim (α := Fin 1) _ _
    | ⟨1, _⟩ => exact Fin.ext h1
    | ⟨2, _⟩ => exact Fin.ext h2
  rw [hyy]
  refine (knn5_apply (iblk5 V c 0 t) (iblk5 V c 1 t) b d).trans ?_
  have e0 : ∀ e, iblk5 V c 0 t (ix3 (0 : Fin 1) b e) = V c main_v22 (ix3 o b e) := by
    intro e
    blk_simp [iblk5]
    refine congrArg (V c main_v22) ?_
    blk_ext [idx5_0]
  have e1 : ∀ k e, iblk5 V c 1 t (ix3 (0 : Fin 1) k e) = V c main_arg13 (ix3 o k e) := by
    intro k e
    blk_simp [iblk5]
    refine congrArg (V c main_arg13) ?_
    blk_ext [idx5_1]
  simp only [e0, e1]

end Cert.KernelIdeal.Val

end
-- ==== Proof.ArrFc.lean ====
/- What the array of the dense layers' kernel holds when its pipeline has run. -/
module

public import proofs.«01_k».proof.Proof.KnnK

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Spec

variable (V : (c : Dev nD) → (b : Ref sig .tc) → Buf (Elt Ideal) ((c : Thread nD τ).loc b)) (c : Dev nD)

/-- The dense layers' kernel, at an image and an output. -/
theorem fc6_apply (x : FVec Ideal S128x3136 .f32) (w1 : FVec Ideal S1024x3136 .f32) (b1 : FVec Ideal S1x1024 .f32)
    (w2 : FVec Ideal S10x1024 .f32) (b2 : FVec Ideal S1x10 .f32) (b : Fin 128) (o : Fin 10) :
    (k6_pay1 (F := Ideal) x w1 b1 w2 b2 (ix2 b o) : EReal) = fc (fun f => x (ix2 b f)) (fun k f => w1 (ix2 k f))
      (fun k => b1 (ix2 (0 : Fin 1) k)) (fun o k => w2 (ix2 o k)) (fun o => b2 (ix2 (0 : Fin 1) o)) o := by
  pointwise [k6_pay1]
  rfl

/-- The block of the dense layers' images at the one point of the grid. -/
theorem idx6_0 : ∀ t : Fin cfg6.N, win6_0.index t = ![0, 0] := (by decide +kernel : ∀ t : Fin grid6.N, _)
/-- The block of the dense layers' first weights at the one point of the grid. -/
theorem idx6_1 : ∀ t : Fin cfg6.N, win6_1.index t = ![0, 0] := (by decide +kernel : ∀ t : Fin grid6.N, _)
/-- The block of the dense layers' first offsets at the one point of the grid. -/
theorem idx6_2 : ∀ t : Fin cfg6.N, win6_2.index t = ![0, 0] := (by decide +kernel : ∀ t : Fin grid6.N, _)
/-- The block of the dense layers' second weights at the one point of the grid. -/
theorem idx6_3 : ∀ t : Fin cfg6.N, win6_3.index t = ![0, 0] := (by decide +kernel : ∀ t : Fin grid6.N, _)
/-- The block of the dense layers' second offsets at the one point of the grid. -/
theorem idx6_4 : ∀ t : Fin cfg6.N, win6_4.index t = ![0, 0] := (by decide +kernel : ∀ t : Fin grid6.N, _)
/-- The block of the dense layers' result at the one point of the grid. -/
theorem idx6_5 : ∀ t : Fin cfg6.N, win6_5.index t = ![0, 0] := (by decide +kernel : ∀ t : Fin grid6.N, _)

/-- The dense layers' array, at an image and an output. -/
theorem arr6 (b : Fin 128) (o : Fin 10) :
    ((dat6 V c).arrAt 5 cfg6.N : FVec Ideal S128x10 .f32) (ix2 b o)
      = fc (fun f => (V c main_v25 : FVec Ideal S128x3136 .f32) (ix2 b f)) (fun k f => (V c main_arg7 : FVec Ideal S1024x3136 .f32) (ix2 k f))
        (fun k => (V c main_v26 : FVec Ideal S1x1024 .f32) (ix2 (0 : Fin 1) k)) (fun o k => (V c main_arg9 : FVec Ideal S10x1024 .f32) (ix2 o k))
        (fun o => (V c main_v27 : FVec Ideal S1x10 .f32) (ix2 (0 : Fin 1) o)) o := by
  refine (dat6 V c).arrAt_forall_of_covers 5 (fun y v => ∀ (b : Fin 128) (o : Fin 10), y = ix2 b o →
    v = fc (fun f => (V c main_v25 : FVec Ideal S128x3136 .f32) (ix2 b f)) (fun k f => (V c main_arg7 : FVec Ideal S1024x3136 .f32) (ix2 k f))
        (fun k => (V c main_v26 : FVec Ideal S1x1024 .f32) (ix2 (0 : Fin 1) k)) (fun o k => (V c main_arg9 : FVec Ideal S10x1024 .f32) (ix2 o k))
        (fun o => (V c main_v27 : FVec Ideal S1x10 .f32) (ix2 (0 : Fin 1) o)) o) (by decide +kernel) (fun t hf y => ?_) (ix2 b o) (by first | exact Memref.isWhole_whole _ | assumption) b o rfl
  intro b o hy
  blk_simp
  rw [after6_5]
  frame_out
  have h0 := congrArg Fin.val (congrFun hy 0)
  have h1 := congrArg Fin.val (congrFun hy 1)
  blk_simp [idx6_5] at h0 h1
  have hyy : y = ix2 b o := by
    funext a
    match a with
    | ⟨0, _⟩ => exact Fin.ext h0
    | ⟨1, _⟩ => exact Fin.ext h1
  rw [hyy]
  refine (fc6_apply (iblk6 V c 0 t) (iblk6 V c 1 t) (iblk6 V c 2 t) (iblk6 V c 3 t) (iblk6 V c 4 t) b o).trans ?_
  have e0 : ∀ (b : Fin 128) (q : Fin 3136), iblk6 V c 0 t (ix2 b q) = V c main_v25 (ix2 b q) := by
    intro b q
    blk_simp [iblk6]
    refine congrArg (V c main_v25) ?_
    blk_ext [idx6_0]
  have e1 : ∀ (b : Fin 1024) (q : Fin 3136), iblk6 V c 1 t (ix2 b q) = V c main_arg7 (ix2 b q) := by
    intro b q
    blk_simp [iblk6]
    refine congrArg (V c main_arg7) ?_
    blk_ext [idx6_1]
  have e2 : ∀ (b : Fin 1) (q : Fin 1024), iblk6 V c 2 t (ix2 b q) = V c main_v26 (ix2 b q) := by
    intro b q
    blk_simp [iblk6]
    refine congrArg (V c main_v26) ?_
    blk_ext [idx6_2]
  have e3 : ∀ (b : Fin 10) (q : Fin 1024), iblk6 V c 3 t (ix2 b q) = V c main_arg9 (ix2 b q) := by
    intro b q
    blk_simp [iblk6]
    refine congrArg (V c main_arg9) ?_
    blk_ext [idx6_3]
  have e4 : ∀ (b : Fin 1) (q : Fin 10), iblk6 V c 4 t (ix2 b q) = V c main_v27 (ix2 b q) := by
    intro b q
    blk_simp [iblk6]
    refine congrArg (V c main_v27) ?_
    blk_ext [idx6_4]
  simp only [e0, e1, e2, e3, e4]

end Cert.KernelIdeal.Val

end
-- ==== Proof.ConvK.lean ====
/- The second and third convolution's kernels, written as one sum over the 25 taps. -/
module

public import proofs.«01_k».proof.Proof.Gen.KernelIdeal.Frame
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Val

open Idealize.ShloMosaic Idealize.ShloMosaic.Tactic
open Cert.KernelIdeal Cert.KernelIdeal.Gen

/-- The offset of a filter's row or column from its middle one. -/
def off (u : Fin 5) : BitVec 32 := ![4294967294#32, 4294967295#32, 0#32, 1#32, 2#32] u

/-- The rows and columns of the filter in the order the kernel visits them. -/
def taps : List (Fin 5 × Fin 5) :=
  [(0, 0), (0, 1), (0, 2), (0, 3), (0, 4), (1, 0), (1, 1), (1, 2), (1, 3), (1, 4), (2, 0), (2, 1), (2, 2), (2, 3), (2, 4),
   (3, 0), (3, 1), (3, 2), (3, 3), (3, 4), (4, 0), (4, 1), (4, 2), (4, 3), (4, 4)]

variable {F : FTy → Type} [FloatOps F]

/-- Which lanes have the tap's pixel inside an image of `n` rows and columns: one there and zero elsewhere. -/
def inside {s : Shape} (n : BitVec 32) (I J : IVec s 32) (di dj : BitVec 32) : FVec F s .f32 :=
  sitofp .f32 (extui 32 (andi (andi (andi (cmpi .sge (addi I (broadcast s di)) (broadcast s 0#32))
    (cmpi .slt (addi I (broadcast s di)) (broadcast s n)))
    (cmpi .sge (addi J (broadcast s dj)) (broadcast s 0#32)))
    (cmpi .slt (addi J (broadcast s dj)) (broadcast s n))) natLt_1_32)

/-- The channels moved by one tap, with zeros where the tap's pixel is outside the image. -/
def moved (X : FVec F S32x6272 .f32) (I J : IVec S1x6272 32) (p : Fin 5 × Fin 5) : FVec F S32x6272 .f32 :=
  mulf (dynamicRotate 1 (BitVec.ofNat 32 ((6302 - 14 * p.1.val - p.2.val) % 6272)) none X rotates_S32x6272_d1)
    (broadcastTo S32x6272 (inside 14#32 I J (off p.1) (off p.2)) broadcasts_S1x6272_S32x6272)

/-- A tap's weights lie inside the weight array. -/
theorem wrect2_inb (p : Fin 5 × Fin 5) (a : Fin 3) :
    (![5 * p.1.val + p.2.val, 0, 0] : Fin 3 → Nat) a + S1x32x32.size a ≤ S25x32x32.size a := by
  revert a p; decide

/-- One tap's weights of the second convolution. -/
def wt2 (W : Vec F S25x32x32 .f32) (p : Fin 5 × Fin 5) : FVec F S32x32 .f32 :=
  shapeCast S32x32 (View.ld W (Rect.unit (s := S25x32x32) ![5 * p.1.val + p.2.val, 0, 0] S1x32x32.size (wrect2_inb p)))
    shapeCasts_S1x32x32_S32x32

/-- The second convolution's running sum over the taps. -/
def acc2 (X : FVec F S32x6272 .f32) (W : Vec F S25x32x32 .f32) (I J : IVec S1x6272 32) : FVec F S32x6272 .f32 :=
  taps.foldl (fun acc p => addf acc (matmul dot_S32x32_S32x6272_S32x6272_1_0_0_1_n_n none
    (wt2 W p) (moved X I J p) (constant S32x6272 .f32 0x00000000#32)))
    (broadcast S32x6272 (Scalar.ofBits .f32 0x00000000#32))

/-- What the second convolution's kernel leaves for a block. -/
def conv2 (X : Vec F S32x6272 .f32) (W : Vec F S25x32x32 .f32) (b : Vec F S32x1 .f32) : FVec F S32x6272 .f32 :=
  maximumf (addf (acc2 (shapeCast S32x6272 (View.ld X r2_0) shapeCasts_S32x6272_S32x6272) W k2_pay4 (k2_pay5 k2_pay3 14#32))
    (broadcastTo S32x6272 (shapeCast S32x1 (View.ld b r2_26) shapeCasts_S32x1_S32x1) broadcasts_S32x1_S32x6272))
    (broadcast S32x6272 (Scalar.ofBits .f32 0x00000000#32))

/-- The printed kernel of the second convolution leaves that. -/
theorem out2_3_eq (X : Vec F S32x6272 .f32) (W : Vec F S25x32x32 .f32) (b : Vec F S32x1 .f32) :
    out2_3 X W b = View.canon [⟨r2_0, conv2 X W b⟩] := by
  chain_rfl

/-- A tap's weights lie inside the third convolution's weight array. -/
theorem wrect4_inb (p : Fin 5 × Fin 5) (a : Fin 3) :
    (![5 * p.1.val + p.2.val, 0, 0] : Fin 3 → Nat) a + S1x64x32.size a ≤ S25x64x32.size a := by
  revert a p; decide

/-- One tap's weights of the third convolution. -/
def wt4 (W : Vec F S25x64x32 .f32) (p : Fin 5 × Fin 5) : FVec F S64x32 .f32 :=
  shapeCast S64x32 (View.ld W (Rect.unit (s := S25x64x32) ![5 * p.1.val + p.2.val, 0, 0] S1x64x32.size (wrect4_inb p)))
    shapeCasts_S1x64x32_S64x32

/-- The third convolution's running sum over the taps. -/
def acc4 (X : FVec F S32x6272 .f32) (W : Vec F S25x64x32 .f32) (I J : IVec S1x6272 32) : FVec F S64x6272 .f32 :=
  taps.foldl (fun acc p => addf acc (matmul dot_S64x32_S32x6272_S64x6272_1_0_0_1_n_n none
    (wt4 W p) (moved X I J p) (constant S64x6272 .f32 0x00000000#32)))
    (broadcast S64x6272 (Scalar.ofBits .f32 0x00000000#32))

/-- The third convolution of a block, before the windows' maxima. -/
def conv4 (X : Vec F S32x6272 .f32) (W : Vec F S25x64x32 .f32) (b : Vec F S64x1 .f32) : FVec F S64x6272 .f32 :=
  maximumf (addf (acc4 (shapeCast S32x6272 (View.ld X r4_0) shapeCasts_S32x6272_S32x6272) W k2_pay4 (k2_pay5 k2_pay3 14#32))
    (broadcastTo S64x6272 (shapeCast S64x1 (View.ld b r4_26) shapeCasts_S64x1_S64x1) broadcasts_S64x1_S64x6272))
    (broadcast S64x6272 (Scalar.ofBits .f32 0x00000000#32))

/-- The maxima of each entry and its neighbours one lane, one row, and both further on. -/
def pool4 (y : FVec F S64x6272 .f32) : FVec F S64x6272 .f32 :=
  maximumf (maximumf y (dynamicRotate 1 6271#32 none y rotates_S64x6272_d1))
    (dynamicRotate 1 6258#32 none (maximumf y (dynamicRotate 1 6271#32 none y rotates_S64x6272_d1)) rotates_S64x6272_d1)

/-- The printed kernel of the third convolution leaves that. -/
theorem out4_3_eq (X : Vec F S32x6272 .f32) (W : Vec F S25x64x32 .f32) (b : Vec F S64x1 .f32) :
    out4_3 X W b = View.canon [⟨r4_27, pool4 (conv4 X W b)⟩] := by
  chain_rfl

/-- The image moved by one tap, with zeros where the tap's pixel is outside the image. -/
def row0 (X : FVec F S1x12544 .f32) (I J : IVec S1x12544 32) (p : Fin 5 × Fin 5) : FVec F S1x12544 .f32 :=
  mulf (dynamicRotate 1 (BitVec.ofNat 32 ((12602 - 28 * p.1.val - p.2.val) % 12544)) none X rotates_S1x12544_d1)
    (inside 28#32 I J (off p.1) (off p.2))

/-- The row and column of the filter's `k`-th tap. -/
def tapOf (k : Fin 25) : Fin 5 × Fin 5 := (⟨k.val / 5, by omega⟩, ⟨k.val % 5, by omega⟩)

/-- The 25 moved images stacked fit the stack. -/
theorem stack_fits (f : Fin 25 → (S1x12544.Idx → F .f32)) : Shape.Concatenates
    ((List.ofFn fun k : Fin 25 => (⟨S1x12544, f k⟩ : (s : Shape) × (s.Idx → F .f32))).map (·.1)) S25x12544 0 :=
  concatenates_S1x12544_S1x12544_S1x12544_S1x12544_S1x12544_S1x12544_S1x12544_S1x12544_S1x12544_S1x12544_S1x12544_S1x12544_S1x12544_S1x12544_S1x12544_S1x12544_S1x12544_S1x12544_S1x12544_S1x12544_S1x12544_S1x12544_S1x12544_S1x12544_S1x12544_S25x12544_d0

/-- The first convolution of a block, before the windows' maxima: one product with the 25 moved images stacked. -/
def conv0 (X : Vec F S1x12544 .f32) (W : Vec F S32x25 .f32) (b : Vec F S32x1 .f32) : FVec F S32x12544 .f32 :=
  maximumf (addf (matmul dot_S32x25_S25x12544_S32x12544_1_0_0_1_n_n none (shapeCast S32x25 (View.ld W r0_1) shapeCasts_S32x25_S32x25)
      (concatenate S25x12544 0 (List.ofFn fun k : Fin 25 => (⟨S1x12544, row0 (shapeCast S1x12544 (View.ld X r0_0) shapeCasts_S1x12544_S1x12544)
        k0_pay4 (k0_pay5 k0_pay3 28#32) (tapOf k)⟩ : (s : Shape) × (s.Idx → F .f32))) (stack_fits _))
      (constant S32x12544 .f32 0x00000000#32))
    (broadcastTo S32x12544 (shapeCast S32x1 (View.ld b r0_2) shapeCasts_S32x1_S32x1) broadcasts_S32x1_S32x12544))
    (broadcast S32x12544 (Scalar.ofBits .f32 0x00000000#32))

/-- The maxima of each entry and its neighbours one lane, one row, and both further on. -/
def pool0 (y : FVec F S32x12544 .f32) : FVec F S32x12544 .f32 :=
  maximumf (maximumf y (dynamicRotate 1 12543#32 none y rotates_S32x12544_d1))
    (dynamicRotate 1 12516#32 none (maximumf y (dynamicRotate 1 12543#32 none y rotates_S32x12544_d1)) rotates_S32x12544_d1)

/-- The printed kernel of the first convolution leaves that. -/
theorem out0_3_eq (X : Vec F S1x12544 .f32) (W : Vec F S32x25 .f32) (b : Vec F S32x1 .f32) :
    out0_3 X W b = View.canon [⟨r0_3, pool0 (conv0 X W b)⟩] := by
  chain_rfl

end Cert.KernelIdeal.Val

end
-- ==== Proof.LaneK.lean ====
/- The row and the column of a lane's pixel, as the kernels compute them from the lane's number. -/
module

public import proofs.«01_k».proof.Proof.ConvK

@[expose] public section

set_option maxRecDepth 16384

noncomputable section

namespace Cert.KernelIdeal.Val

open Idealize.ShloMosaic Idealize.ShloMosaic.Tactic
open Cert.KernelIdeal Cert.KernelIdeal.Gen

/-- The signed remainder of a small number by a small positive one is the remainder. -/
theorem remsi_ofNat (n k : ℕ) (hn : 2 * n < 2 ^ 32) (hk : 0 < k) (hk' : 2 * k < 2 ^ 32) :
    IntOp.remsi .vector (BitVec.ofNat 32 n) (BitVec.ofNat 32 k) = BitVec.ofNat 32 (n % k) := by
  have e : (BitVec.ofNat 32 n).toNat = n := by rw [BitVec.toNat_ofNat]; omega
  apply BitVec.eq_of_toNat_eq
  rw [IntOp.toNat_remsi .vector (by rw [e]; exact hn) k hk hk', e, BitVec.toNat_ofNat]
  have := Nat.mod_le n k
  omega

/-- The correction of a remainder's sign changes nothing for a nonnegative remainder, images of 196 pixels. -/
theorem mod196 (r : Fin 196) : Scalar.select (IntOp.andi (IntOp.xori (IntOp.cmpi CmpIPredicate.slt (BitVec.ofNat 32 r.val) 0#32)
      (Scalar.cmpi CmpIPredicate.slt 196#32 0#32)) (IntOp.cmpi CmpIPredicate.ne (BitVec.ofNat 32 r.val) 0#32))
    (IntOp.addi (BitVec.ofNat 32 r.val) 196#32) (BitVec.ofNat 32 r.val) = BitVec.ofNat 32 r.val := by
  revert r; decide +kernel

/-- The same for images of 784 pixels. -/
theorem mod784 (r : Fin 784) : Scalar.select (IntOp.andi (IntOp.xori (IntOp.cmpi CmpIPredicate.slt (BitVec.ofNat 32 r.val) 0#32)
      (Scalar.cmpi CmpIPredicate.slt 784#32 0#32)) (IntOp.cmpi CmpIPredicate.ne (BitVec.ofNat 32 r.val) 0#32))
    (IntOp.addi (BitVec.ofNat 32 r.val) 784#32) (BitVec.ofNat 32 r.val) = BitVec.ofNat 32 r.val := by
  revert r; decide +kernel

/-- The position of a lane within its image of 196 pixels. -/
theorem lane2 (l : Fin 6272) : k2_pay3 (ix2 (0 : Fin 1) l) = BitVec.ofNat 32 (l.val % 196) := by
  pointwise [k2_pay3]
  rw [show Scalar.select (Scalar.cmpi CmpIPredicate.eq 196#32 0#32) 1#32 196#32 = 196#32 from by decide,
    remsi_ofNat l.val 196 (by omega) (by omega) (by omega)]
  exact mod196 ⟨l.val % 196, by omega⟩

/-- The row of a lane's pixel in an image of 14 rows. -/
theorem row2 (l : Fin 6272) : k2_pay4 (ix2 (0 : Fin 1) l) = BitVec.ofNat 32 (l.val % 196 / 14) := by
  pointwise [k2_pay4, lane2]
  generalize hr : l.val % 196 = r
  have h : r < 196 := by omega
  obtain ⟨r', rfl⟩ : ∃ r' : Fin 196, r = r'.val := ⟨⟨r, h⟩, rfl⟩
  clear hr h
  revert r'; decide +kernel

/-- The column of a lane's pixel in an image of 14 columns. -/
theorem col2 (l : Fin 6272) : k2_pay5 k2_pay3 14#32 (ix2 (0 : Fin 1) l) = BitVec.ofNat 32 (l.val % 196 % 14) := by
  pointwise [k2_pay5, lane2]
  generalize hr : l.val % 196 = r
  have h : r < 196 := by omega
  obtain ⟨r', rfl⟩ : ∃ r' : Fin 196, r = r'.val := ⟨⟨r, h⟩, rfl⟩
  clear hr h
  revert r'; decide +kernel

/-- The position of a lane within its image of 784 pixels. -/
theorem lane0 (l : Fin 12544) : k0_pay3 (ix2 (0 : Fin 1) l) = BitVec.ofNat 32 (l.val % 784) := by
  pointwise [k0_pay3]
  rw [show Scalar.select (Scalar.cmpi CmpIPredicate.eq 784#32 0#32) 1#32 784#32 = 784#32 from by decide,
    remsi_ofNat l.val 784 (by omega) (by omega) (by omega)]
  exact mod784 ⟨l.val % 784, by omega⟩

/-- The row of a lane's pixel in an image of 28 rows. -/
theorem row0_eq (l : Fin 12544) : k0_pay4 (ix2 (0 : Fin 1) l) = BitVec.ofNat 32 (l.val % 784 / 28) := by
  pointwise [k0_pay4, lane0]
  generalize hr : l.val % 784 = r
  have h : r < 784 := by omega
  obtain ⟨r', rfl⟩ : ∃ r' : Fin 784, r = r'.val := ⟨⟨r, h⟩, rfl⟩
  clear hr h
  revert r'; decide +kernel

/-- The column of a lane's pixel in an image of 28 columns. -/
theorem col0 (l : Fin 12544) : k0_pay5 k0_pay3 28#32 (ix2 (0 : Fin 1) l) = BitVec.ofNat 32 (l.val % 784 % 28) := by
  pointwise [k0_pay5, lane0]
  generalize hr : l.val % 784 = r
  have h : r < 784 := by omega
  obtain ⟨r', rfl⟩ : ∃ r' : Fin 784, r = r'.val := ⟨⟨r, h⟩, rfl⟩
  clear hr h
  revert r'; decide +kernel

/-- Whether a tap's pixel lies inside an image of 14 rows and columns: the kernel's four comparisons, as a number. -/
def insideWord (n : BitVec 32) (i j di dj : BitVec 32) : BitVec 1 :=
  IntOp.andi (IntOp.andi (IntOp.andi (IntOp.cmpi .sge (IntOp.addi i di) 0#32) (IntOp.cmpi .slt (IntOp.addi i di) n))
    (IntOp.cmpi .sge (IntOp.addi j dj) 0#32)) (IntOp.cmpi .slt (IntOp.addi j dj) n)

/-- The four comparisons hold exactly when the tap's pixel lies inside an image of 14 rows and columns. -/
theorem inside14 (i j : Fin 14) (u v : Fin 5) : insideWord 14#32 (BitVec.ofNat 32 i.val) (BitVec.ofNat 32 j.val) (off u) (off v) =
    if (2 ≤ i.val + u.val ∧ i.val + u.val < 14 + 2) ∧ (2 ≤ j.val + v.val ∧ j.val + v.val < 14 + 2) then 1#1 else 0#1 := by
  revert i j u v; decide +kernel

/-- The four comparisons hold exactly when the tap's pixel lies inside an image of 28 rows and columns. -/
theorem inside28 (i j : Fin 28) (u v : Fin 5) : insideWord 28#32 (BitVec.ofNat 32 i.val) (BitVec.ofNat 32 j.val) (off u) (off v) =
    if (2 ≤ i.val + u.val ∧ i.val + u.val < 28 + 2) ∧ (2 ≤ j.val + v.val ∧ j.val + v.val < 28 + 2) then 1#1 else 0#1 := by
  revert i j u v; decide +kernel

end Cert.KernelIdeal.Val

end
-- ==== Proof.TapK.lean ====
/- One tap of the kernels' convolutions at a lane: the pixel the tap reads, or zero where that lies outside the image. -/
module

public import proofs.«01_k».proof.Proof.LaneK

@[expose] public section

set_option maxRecDepth 16384

noncomputable section

namespace Cert.KernelIdeal.Val

open Idealize.ShloMosaic Idealize.ShloMosaic.Tactic
open Cert.KernelIdeal Cert.KernelIdeal.Gen Cert.Spec

/-- A lane of an array of 32 images of 14 by 14 pixels. -/
def lane14 (b : Fin 32) (i j : Fin 14) : Fin 6272 := ⟨196 * b.val + 14 * i.val + j.val, by omega⟩

/-- A lane of an array of 16 images of 28 by 28 pixels. -/
def lane28 (b : Fin 16) (i j : Fin 28) : Fin 12544 := ⟨784 * b.val + 28 * i.val + j.val, by omega⟩

/-- The number one or zero of a single bit. -/
theorem bit_val (p : Prop) [Decidable p] : (FloatOps.sitofp .f32 (BitVec.setWidth 32 (if p then 1#1 else 0#1)) : Ideal .f32) = if p then (1 : EReal) else 0 := by
  split
  · show ((((BitVec.setWidth 32 1#1).toInt : ℤ) : ℝ) : EReal) = 1
    norm_num
  · show ((((BitVec.setWidth 32 0#1).toInt : ℤ) : ℝ) : EReal) = 0
    norm_num

/-- Moving a lane back by `k - t` around `N` lanes, when that stays among the lanes. -/
theorem back (N k l t : ℕ) (hN : 2 * N < 2 ^ 32) (hk : k < N) (ht : t ≤ N) (hl : l < N) (h1 : k ≤ l + t) (h2 : l + t - k < N) :
    (l + N - (N + k - t) % N % 2 ^ 32 % N) % N = l + t - k := by
  rcases le_or_gt t k with h | h
  · have e : (N + k - t) % N = k - t := by
      rw [show N + k - t = k - t + N by omega, Nat.add_mod_right, Nat.mod_eq_of_lt (by omega)]
    rw [e, Nat.mod_eq_of_lt (show k - t < 2 ^ 32 by omega), Nat.mod_eq_of_lt (show k - t < N by omega),
      show l + N - (k - t) = l + t - k + N by omega, Nat.add_mod_right, Nat.mod_eq_of_lt h2]
  · rw [Nat.mod_eq_of_lt (show N + k - t < N by omega), Nat.mod_eq_of_lt (show N + k - t < 2 ^ 32 by omega),
      Nat.mod_eq_of_lt (show N + k - t < N by omega), show l + N - (N + k - t) = l + t - k by omega, Nat.mod_eq_of_lt h2]

/-- One tap of the second and third convolutions, at a lane. -/
theorem moved_apply (X : FVec Ideal S32x6272 .f32) (c b : Fin 32) (i j : Fin 14) (u v : Fin 5) :
    moved X k2_pay4 (k2_pay5 k2_pay3 14#32) (u, v) (ix2 c (lane14 b i j))
      = padded (fun i' j' => X (ix2 c (lane14 b i' j'))) (i.val + u.val) (j.val + v.val) := by
  pointwise [moved, inside, row2, col2]
  have hi : (lane14 b i j).val % 196 / 14 = i.val := by simp only [lane14]; omega
  have hj : (lane14 b i j).val % 196 % 14 = j.val := by simp only [lane14]; omega
  rw [hi, hj]
  refine (congrArg (fun w : BitVec 1 => _ * (FloatOps.sitofp .f32 (BitVec.setWidth 32 w) : Ideal .f32)) (inside14 i j u v)).trans ?_
  rw [bit_val]
  unfold padded
  split
  · rename_i h
    rw [mul_one]
    refine congrArg X (congrArg (ix2 c) (Fin.ext ?_))
    have e := back 6272 30 (lane14 b i j).val (14 * u.val + v.val) (by omega) (by omega) (by omega) (lane14 b i j).isLt
      (by simp only [lane14]; omega) (by simp only [lane14]; omega)
    rw [← Nat.sub_sub] at e
    rw [BitVec.toNat_ofNat]
    refine e.trans ?_
    simp only [lane14]
    omega
  · rw [mul_zero]

/-- One tap of the first convolution, at a lane. -/
theorem row0_apply (X : FVec Ideal S1x12544 .f32) (b : Fin 16) (i j : Fin 28) (u v : Fin 5) :
    row0 X k0_pay4 (k0_pay5 k0_pay3 28#32) (u, v) (ix2 (0 : Fin 1) (lane28 b i j))
      = padded (fun i' j' => X (ix2 (0 : Fin 1) (lane28 b i' j'))) (i.val + u.val) (j.val + v.val) := by
  pointwise [row0, inside, row0_eq, col0]
  have hi : (lane28 b i j).val % 784 / 28 = i.val := by simp only [lane28]; omega
  have hj : (lane28 b i j).val % 784 % 28 = j.val := by simp only [lane28]; omega
  rw [hi, hj]
  refine (congrArg (fun w : BitVec 1 => _ * (FloatOps.sitofp .f32 (BitVec.setWidth 32 w) : Ideal .f32)) (inside28 i j u v)).trans ?_
  rw [bit_val]
  unfold padded
  split
  · rename_i h
    rw [mul_one]
    refine congrArg X (congrArg (ix2 (0 : Fin 1)) (Fin.ext ?_))
    have e := back 12544 58 (lane28 b i j).val (28 * u.val + v.val) (by omega) (by omega) (by omega) (lane28 b i j).isLt
      (by simp only [lane28]; omega) (by simp only [lane28]; omega)
    rw [← Nat.sub_sub] at e
    rw [BitVec.toNat_ofNat]
    refine e.trans ?_
    simp only [lane28]
    omega
  · rw [mul_zero]

end Cert.KernelIdeal.Val

end
-- ==== Proof.BlockConv.lean ====
/- What one block of each convolution's kernel holds: the convolution of each image of the block, and the windows' maxima. -/
module

public import proofs.«01_k».proof.Proof.TapK
public import Idealize.ShloMosaic.Lib.KernelVsHost

@[expose] public section

set_option maxRecDepth 16384

noncomputable section

namespace Cert.KernelIdeal.Val

open Idealize.ShloMosaic Idealize.ShloMosaic.Tactic
open Cert.KernelIdeal Cert.KernelIdeal.Gen Cert.Spec

/-- A running sum over a list, read at an index, is the first value plus the list's sum there. -/
theorem foldl_addf_apply {s : Shape} {α : Type} (f : α → FVec Ideal s .f32) (x : s.Idx) : ∀ (ps : List α) (z : FVec Ideal s .f32),
    ps.foldl (fun acc p => addf acc (f p)) z x = (z x + (ps.map fun p => f p x).sum : EReal)
  | [], z => by simp
  | p :: ps, z => by
      rw [List.foldl_cons, foldl_addf_apply f x ps, List.map_cons, List.sum_cons, ← add_assoc]
      rfl

/-- The sum over the kernel's list of taps is the sum over the filter's rows and columns. -/
theorem sum_taps (g : Fin 5 × Fin 5 → EReal) : (taps.map g).sum = ∑ u : Fin 5, ∑ v : Fin 5, g (u, v) := by
  simp only [taps, List.map_cons, List.map_nil, List.sum_cons, List.sum_nil, Fin.sum_univ_five, add_zero, add_assoc]

/-- The number of a tap. -/
def tapNo (u v : Fin 5) : Fin 25 := ⟨5 * u.val + v.val, by omega⟩

/-- The taps' sum with the channels' sums inside is the convolution's sum. -/
theorem sum_swap (g : Fin 32 → Fin 5 → Fin 5 → EReal) :
    ∑ u : Fin 5, ∑ v : Fin 5, ∑ c : Fin 32, g c u v = ∑ c : Fin 32, ∑ u : Fin 5, ∑ v : Fin 5, g c u v := by
  rw [show (∑ u : Fin 5, ∑ v : Fin 5, ∑ c : Fin 32, g c u v) = ∑ u : Fin 5, ∑ c : Fin 32, ∑ v : Fin 5, g c u v from
    Finset.sum_congr rfl fun u _ => Finset.sum_comm]
  exact Finset.sum_comm

/-- One tap's weights, second convolution, at an output and an input channel. -/
theorem wt2_apply (W : FVec Ideal S25x32x32 .f32) (p : Fin 5 × Fin 5) (o : Fin 32) (c : Fin 32) :
    (wt2 (F := Ideal) W p (ix2 o c) : EReal) = W (ix3 (tapNo p.1 p.2) o c) := by
  refine (shapeCast_apply _ shapeCasts_S1x32x32_S32x32 (ix2 o c) (ix3 (0 : Fin 1) o c) (by
    rw [Shape.rowMajor_val_three, Shape.rowMajor_val_two]; show (0 * 32 + o.val) * 32 + c.val = o.val * 32 + c.val; omega)).trans ?_
  refine congrArg W (funext fun a => Fin.ext ?_)
  match a with
  | ⟨0, _⟩ => rw [Rect.idx_unit_val]; rfl
  | ⟨1, _⟩ => rw [Rect.idx_unit_val]; exact Nat.zero_add _
  | ⟨2, _⟩ => rw [Rect.idx_unit_val]; exact Nat.zero_add _

/-- One tap's product with the weights, second convolution. -/
theorem tap2_apply (A : FVec Ideal S32x32 .f32) (Z : FVec Ideal S32x6272 .f32) (o : Fin 32) (l : Fin 6272) :
    (matmul (F := Ideal) (φ₁ := .f32) (φ₂ := .f32) dot_S32x32_S32x6272_S32x6272_1_0_0_1_n_n none A Z
      (constant S32x6272 .f32 0x00000000#32) (ix2 o l) : EReal) = ∑ c : Fin 32, Z (ix2 c l) * A (ix2 o c) := by
  pointwise [mul_comm]

/-- The running sum over the taps, second convolution. -/
theorem acc2_apply (X : FVec Ideal S32x6272 .f32) (W : FVec Ideal S25x32x32 .f32) (I J : IVec S1x6272 32) (o : Fin 32) (l : Fin 6272) :
    (acc2 (F := Ideal) X W I J (ix2 o l) : EReal)
      = ∑ c : Fin 32, ∑ u : Fin 5, ∑ v : Fin 5, moved X I J (u, v) (ix2 c l) * W (ix3 (tapNo u v) o c) := by
  refine (foldl_addf_apply _ (ix2 o l) taps _).trans ?_
  rw [sum_taps, ← sum_swap]
  refine (congrArg₂ (· + ·) (Ideal.ofBits_zero_f32 : _ = (0 : EReal)) rfl).trans ((zero_add _).trans ?_)
  refine Finset.sum_congr rfl fun u _ => Finset.sum_congr rfl fun v _ => (tap2_apply _ _ o l).trans ?_
  exact Finset.sum_congr rfl fun c _ => congrArg (_ * ·) (wt2_apply W (u, v) o c)

/-- One image's pixels of the second convolution's result. -/
theorem conv2_apply (X : FVec Ideal S32x6272 .f32) (W : FVec Ideal S25x32x32 .f32) (β : FVec Ideal S32x1 .f32) (o : Fin 32) (b : Fin 32) (i j : Fin 14) :
    (conv2 (F := Ideal) X W β (ix2 o (lane14 b i j)) : EReal) = convRelu (fun c i' j' => X (ix2 c (lane14 b i' j')))
      (fun c u v => W (ix3 (tapNo u v) o c)) (β (ix2 o (0 : Fin 1))) i.val j.val := by
  have hX : shapeCast S32x6272 (View.ld (Val := Elt Ideal) (e' := .f32) X r2_0) shapeCasts_S32x6272_S32x6272 = X := by
    funext y; pointwise []
  rw [conv2, hX]
  pointwise [acc2_apply, moved_apply]
  rfl

/-- One tap's weights, third convolution, at an output and an input channel. -/
theorem wt4_apply (W : FVec Ideal S25x64x32 .f32) (p : Fin 5 × Fin 5) (o : Fin 64) (c : Fin 32) :
    (wt4 (F := Ideal) W p (ix2 o c) : EReal) = W (ix3 (tapNo p.1 p.2) o c) := by
  refine (shapeCast_apply _ shapeCasts_S1x64x32_S64x32 (ix2 o c) (ix3 (0 : Fin 1) o c) (by
    rw [Shape.rowMajor_val_three, Shape.rowMajor_val_two]; show (0 * 64 + o.val) * 32 + c.val = o.val * 32 + c.val; omega)).trans ?_
  refine congrArg W (funext fun a => Fin.ext ?_)
  match a with
  | ⟨0, _⟩ => rw [Rect.idx_unit_val]; rfl
  | ⟨1, _⟩ => rw [Rect.idx_unit_val]; exact Nat.zero_add _
  | ⟨2, _⟩ => rw [Rect.idx_unit_val]; exact Nat.zero_add _

/-- One tap's product with the weights, third convolution. -/
theorem tap4_apply (A : FVec Ideal S64x32 .f32) (Z : FVec Ideal S32x6272 .f32) (o : Fin 64) (l : Fin 6272) :
    (matmul (F := Ideal) (φ₁ := .f32) (φ₂ := .f32) dot_S64x32_S32x6272_S64x6272_1_0_0_1_n_n none A Z
      (constant S64x6272 .f32 0x00000000#32) (ix2 o l) : EReal) = ∑ c : Fin 32, Z (ix2 c l) * A (ix2 o c) := by
  pointwise [mul_comm]

/-- The running sum over the taps, third convolution. -/
theorem acc4_apply (X : FVec Ideal S32x6272 .f32) (W : FVec Ideal S25x64x32 .f32) (I J : IVec S1x6272 32) (o : Fin 64) (l : Fin 6272) :
    (acc4 (F := Ideal) X W I J (ix2 o l) : EReal)
      = ∑ c : Fin 32, ∑ u : Fin 5, ∑ v : Fin 5, moved X I J (u, v) (ix2 c l) * W (ix3 (tapNo u v) o c) := by
  refine (foldl_addf_apply _ (ix2 o l) taps _).trans ?_
  rw [sum_taps, ← sum_swap]
  refine (congrArg₂ (· + ·) (Ideal.ofBits_zero_f32 : _ = (0 : EReal)) rfl).trans ((zero_add _).trans ?_)
  refine Finset.sum_congr rfl fun u _ => Finset.sum_congr rfl fun v _ => (tap4_apply _ _ o l).trans ?_
  exact Finset.sum_congr rfl fun c _ => congrArg (_ * ·) (wt4_apply W (u, v) o c)

/-- One image's pixels of the third convolution's result. -/
theorem conv4_apply (X : FVec Ideal S32x6272 .f32) (W : FVec Ideal S25x64x32 .f32) (β : FVec Ideal S64x1 .f32) (o : Fin 64) (b : Fin 32) (i j : Fin 14) :
    (conv4 (F := Ideal) X W β (ix2 o (lane14 b i j)) : EReal) = convRelu (fun c i' j' => X (ix2 c (lane14 b i' j')))
      (fun c u v => W (ix3 (tapNo u v) o c)) (β (ix2 o (0 : Fin 1))) i.val j.val := by
  have hX : shapeCast S32x6272 (View.ld (Val := Elt Ideal) (e' := .f32) X r4_0) shapeCasts_S32x6272_S32x6272 = X := by
    funext y; pointwise []
  rw [conv4, hX]
  pointwise [acc4_apply, moved_apply]
  rfl

/-- The first convolution's weights at an output channel: its row of 25. -/
theorem sum_tapOf (g : Fin 25 → EReal) : ∑ k : Fin 25, g k = ∑ u : Fin 5, ∑ v : Fin 5, g (tapNo u v) := by
  rw [← Equiv.sum_comp (finProdFinEquiv (m := 5) (n := 5)) g, Fintype.sum_prod_type]
  refine Finset.sum_congr rfl fun u _ => Finset.sum_congr rfl fun v _ => congrArg g (Fin.ext ?_)
  show v.val + 5 * u.val = 5 * u.val + v.val
  omega

/-- The taps in order are the filter's rows and columns in order. -/
theorem tapOf_tapNo (u v : Fin 5) : tapOf (tapNo u v) = (u, v) := by
  revert u v; decide

/-- One image's pixels of the first convolution's result. -/
theorem conv0_apply (X : FVec Ideal S1x12544 .f32) (W : FVec Ideal S32x25 .f32) (β : FVec Ideal S32x1 .f32) (o : Fin 32) (b : Fin 16) (i j : Fin 28) :
    (conv0 (F := Ideal) X W β (ix2 o (lane28 b i j)) : EReal) = convRelu (fun (_ : Fin 1) i' j' => X (ix2 (0 : Fin 1) (lane28 b i' j')))
      (fun _ u v => W (ix2 o (tapNo u v))) (β (ix2 o (0 : Fin 1))) i.val j.val := by
  have hX : shapeCast S1x12544 (View.ld (Val := Elt Ideal) (e' := .f32) X r0_0) shapeCasts_S1x12544_S1x12544 = X := by
    funext y
    have hy : y = ix2 (0 : Fin 1) (y 1) := by
      funext a
      match a with
      | ⟨0, _⟩ => exact Subsingleton.elim (α := Fin 1) _ _
      | ⟨1, _⟩ => rfl
    rw [hy]
    pointwise []
  rw [conv0, hX]
  pointwise []
  rw [sum_tapOf]
  simp only [tapOf_tapNo, row0_apply, convRelu, Finset.univ_unique, Finset.sum_singleton, mul_comm]

/-- A block's lanes rotated by all but `k` of them bring the lane `k` further on. -/
theorem ahead4 (y : FVec Ideal S64x6272 .f32) (o : Fin 64) (l m : Fin 6272) (k : ℕ) (s : BitVec 32) (hs : s.toNat + k = 6272) (hk : 0 < k)
    (hm : m.val = l.val + k) : dynamicRotate 1 s none y rotates_S64x6272_d1 (ix2 o l) = y (ix2 o m) := by
  refine dynamicRotate_apply (1 : Fin 2) s y _ _ (ix2 o m) fun b => ?_
  match b with
  | ⟨0, _⟩ => rfl
  | ⟨1, _⟩ =>
    have hlt := m.isLt
    show m.val = (l.val + 6272 - s.toNat % 6272) % 6272
    rw [Nat.mod_eq_of_lt (show s.toNat < 6272 by omega), show l.val + 6272 - s.toNat = m.val by omega, Nat.mod_eq_of_lt hlt]

/-- The maxima over one image's windows. -/
theorem pool4_apply (y : FVec Ideal S64x6272 .f32) (Y : ℕ → ℕ → EReal) (o : Fin 64) (b : Fin 32)
    (hy : ∀ i j : Fin 14, y (ix2 o (lane14 b i j)) = Y i.val j.val) (i j : Fin 7) :
    (pool4 (F := Ideal) y (ix2 o (lane14 b ⟨2 * i.val, by omega⟩ ⟨2 * j.val, by omega⟩)) : EReal) = pool Y i.val j.val := by
  have e1 : ∀ i' : Fin 14, (maximumf y (dynamicRotate 1 6271#32 none y rotates_S64x6272_d1) : FVec Ideal S64x6272 .f32)
      (ix2 o (lane14 b i' ⟨2 * j.val, by omega⟩)) = max (Y i'.val (2 * j.val)) (Y i'.val (2 * j.val + 1)) := fun i' => by
    rw [← hy i' ⟨2 * j.val, by omega⟩, ← hy i' ⟨2 * j.val + 1, by omega⟩]
    exact congrArg (max (y (ix2 o (lane14 b i' ⟨2 * j.val, by omega⟩)) : EReal)) (ahead4 y o _ (lane14 b i' ⟨2 * j.val + 1, by omega⟩) 1 _ rfl Nat.one_pos rfl)
  refine congrArg₂ (max : EReal → EReal → EReal) (e1 ⟨2 * i.val, by omega⟩) (Eq.trans ?_ (e1 ⟨2 * i.val + 1, by omega⟩))
  exact ahead4 _ o _ (lane14 b ⟨2 * i.val + 1, by omega⟩ ⟨2 * j.val, by omega⟩) 14 _ rfl (by omega) (by simp only [lane14]; omega)

/-- A block's lanes rotated by all but `k` of them bring the lane `k` further on. -/
theorem ahead0 (y : FVec Ideal S32x12544 .f32) (o : Fin 32) (l m : Fin 12544) (k : ℕ) (s : BitVec 32) (hs : s.toNat + k = 12544) (hk : 0 < k)
    (hm : m.val = l.val + k) : dynamicRotate 1 s none y rotates_S32x12544_d1 (ix2 o l) = y (ix2 o m) := by
  refine dynamicRotate_apply (1 : Fin 2) s y _ _ (ix2 o m) fun b => ?_
  match b with
  | ⟨0, _⟩ => rfl
  | ⟨1, _⟩ =>
    have hlt := m.isLt
    show m.val = (l.val + 12544 - s.toNat % 12544) % 12544
    rw [Nat.mod_eq_of_lt (show s.toNat < 12544 by omega), show l.val + 12544 - s.toNat = m.val by omega, Nat.mod_eq_of_lt hlt]

/-- The maxima over one image's windows. -/
theorem pool0_apply (y : FVec Ideal S32x12544 .f32) (Y : ℕ → ℕ → EReal) (o : Fin 32) (b : Fin 16)
    (hy : ∀ i j : Fin 28, y (ix2 o (lane28 b i j)) = Y i.val j.val) (i j : Fin 14) :
    (pool0 (F := Ideal) y (ix2 o (lane28 b ⟨2 * i.val, by omega⟩ ⟨2 * j.val, by omega⟩)) : EReal) = pool Y i.val j.val := by
  have e1 : ∀ i' : Fin 28, (maximumf y (dynamicRotate 1 12543#32 none y rotates_S32x12544_d1) : FVec Ideal S32x12544 .f32)
      (ix2 o (lane28 b i' ⟨2 * j.val, by omega⟩)) = max (Y i'.val (2 * j.val)) (Y i'.val (2 * j.val + 1)) := fun i' => by
    rw [← hy i' ⟨2 * j.val, by omega⟩, ← hy i' ⟨2 * j.val + 1, by omega⟩]
    exact congrArg (max (y (ix2 o (lane28 b i' ⟨2 * j.val, by omega⟩)) : EReal)) (ahead0 y o _ (lane28 b i' ⟨2 * j.val + 1, by omega⟩) 1 _ rfl Nat.one_pos rfl)
  refine congrArg₂ (max : EReal → EReal → EReal) (e1 ⟨2 * i.val, by omega⟩) (Eq.trans ?_ (e1 ⟨2 * i.val + 1, by omega⟩))
  exact ahead0 _ o _ (lane28 b ⟨2 * i.val + 1, by omega⟩ ⟨2 * j.val, by omega⟩) 28 _ rfl (by omega) (by simp only [lane28]; omega)

end Cert.KernelIdeal.Val

end
-- ==== Proof.ArrConv.lean ====
/- What the arrays of the three convolution kernels hold when their pipelines have run. -/
module

public import proofs.«01_k».proof.Proof.BlockConv

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Spec

variable (V : (c : Dev nD) → (b : Ref sig .tc) → Buf (Elt Ideal) ((c : Thread nD τ).loc b)) (c : Dev nD)

/-- The place of a pixel in an array of 128 images of 14 by 14 pixels. -/
def px14 (b : Fin 128) (i j : Fin 14) : Fin 25088 := ⟨196 * b.val + 14 * i.val + j.val, by omega⟩

/-- The place of a pixel in an array of 128 images of 28 by 28 pixels. -/
def px28 (b : Fin 128) (i j : Fin 28) : Fin 100352 := ⟨784 * b.val + 28 * i.val + j.val, by omega⟩

/-- Where a pixel's place lies in its block, images of 14 by 14 pixels. -/
theorem px14_inj {t l : ℕ} {b : Fin 128} {i j : Fin 14} (hl : l < 6272) (h : t * 6272 + l = (px14 b i j).val) :
    t = b.val / 32 ∧ l = (lane14 ⟨b.val % 32, by omega⟩ i j).val := by
  simp only [px14, lane14] at h ⊢
  omega

/-- Where a pixel's place lies in its block, images of 28 by 28 pixels. -/
theorem px28_inj {t l : ℕ} {b : Fin 128} {i j : Fin 28} (hl : l < 12544) (h : t * 12544 + l = (px28 b i j).val) :
    t = b.val / 16 ∧ l = (lane28 ⟨b.val % 16, by omega⟩ i j).val := by
  simp only [px28, lane28] at h ⊢
  omega

/-- The block of the first convolution's images at a point of the grid. -/
theorem idx0_0 : ∀ t : Fin cfg0.N, win0_0.index t = ![0, t.val] := (by decide +kernel : ∀ t : Fin grid0.N, _)
/-- The block of the first convolution's weights at a point of the grid. -/
theorem idx0_1 : ∀ t : Fin cfg0.N, win0_1.index t = ![0, 0] := (by decide +kernel : ∀ t : Fin grid0.N, _)
/-- The block of the first convolution's offsets at a point of the grid. -/
theorem idx0_2 : ∀ t : Fin cfg0.N, win0_2.index t = ![0, 0] := (by decide +kernel : ∀ t : Fin grid0.N, _)
/-- The block of the first convolution's result at a point of the grid. -/
theorem idx0_3 : ∀ t : Fin cfg0.N, win0_3.index t = ![0, t.val] := (by decide +kernel : ∀ t : Fin grid0.N, _)

/-- The first convolution's array at a pixel of an image. -/
theorem arr0 (o : Fin 32) (b : Fin 128) (i j : Fin 14) :
    ((dat0 V c).arrAt 3 cfg0.N : FVec Ideal S32x100352 .f32) (ix2 o (px28 b ⟨2 * i.val, by omega⟩ ⟨2 * j.val, by omega⟩))
      = pool (convRelu (fun (_ : Fin 1) i' j' => (V c main_v0 : FVec Ideal S1x100352 .f32) (ix2 (0 : Fin 1) (px28 b i' j')))
        (fun _ u v => (V c main_v1 : FVec Ideal S32x25 .f32) (ix2 o (tapNo u v)))
        ((V c main_v2 : FVec Ideal S32x1 .f32) (ix2 o (0 : Fin 1)))) i.val j.val := by
  refine (dat0 V c).arrAt_forall_of_covers 3 (fun y v => ∀ (o : Fin 32) (b : Fin 128) (i j : Fin 14), y = ix2 o (px28 b ⟨2 * i.val, by omega⟩ ⟨2 * j.val, by omega⟩) →
    v = pool (convRelu (fun (_ : Fin 1) i' j' => (V c main_v0 : FVec Ideal S1x100352 .f32) (ix2 (0 : Fin 1) (px28 b i' j')))
        (fun _ u v => (V c main_v1 : FVec Ideal S32x25 .f32) (ix2 o (tapNo u v)))
        ((V c main_v2 : FVec Ideal S32x1 .f32) (ix2 o (0 : Fin 1)))) i.val j.val) (by decide +kernel) (fun t hf y => ?_) (ix2 o (px28 b ⟨2 * i.val, by omega⟩ ⟨2 * j.val, by omega⟩)) (by first | exact Memref.isWhole_whole _ | assumption) o b i j rfl
  intro o b i j hy
  blk_simp
  rw [after0_3, out0_3_eq]
  frame_out
  have h0 := congrArg Fin.val (congrFun hy 0)
  have h1 := congrArg Fin.val (congrFun hy 1)
  blk_simp [idx0_3] at h0 h1
  obtain ⟨ht, hl⟩ := px28_inj (t := t.val) (y 1).isLt h1
  have hyy : y = ix2 o (lane28 ⟨b.val % 16, by omega⟩ ⟨2 * i.val, by omega⟩ ⟨2 * j.val, by omega⟩) := by
    funext a
    match a with
    | ⟨0, _⟩ => exact Fin.ext h0
    | ⟨1, _⟩ => exact Fin.ext hl
  rw [hyy]
  refine (pool0_apply _ _ o _ (conv0_apply (iblk0 V c 0 t) (iblk0 V c 1 t) (iblk0 V c 2 t) o _) i j).trans ?_
  have e0 : ∀ i' j', iblk0 V c 0 t (ix2 (0 : Fin 1) (lane28 ⟨b.val % 16, by omega⟩ i' j')) = V c main_v0 (ix2 (0 : Fin 1) (px28 b i' j')) := by
    intro i' j'
    blk_simp [iblk0]
    refine congrArg (V c main_v0) ?_
    blk_ext [idx0_0, lane28, px28]
  have e1 : ∀ u v, iblk0 V c 1 t (ix2 o (tapNo u v)) = V c main_v1 (ix2 o (tapNo u v)) := by
    intro u v
    blk_simp [iblk0]
    refine congrArg (V c main_v1) ?_
    blk_ext [idx0_1]
  have e2 : iblk0 V c 2 t (ix2 o (0 : Fin 1)) = V c main_v2 (ix2 o (0 : Fin 1)) := by
    blk_simp [iblk0]
    refine congrArg (V c main_v2) ?_
    blk_ext [idx0_2]
  simp only [e0, e1, e2]

/-- The block of the second convolution's images at a point of the grid. -/
theorem idx2_0 : ∀ t : Fin cfg2.N, win2_0.index t = ![0, t.val] := (by decide +kernel : ∀ t : Fin grid2.N, _)
/-- The block of the second convolution's weights at a point of the grid. -/
theorem idx2_1 : ∀ t : Fin cfg2.N, win2_1.index t = ![0, 0, 0] := (by decide +kernel : ∀ t : Fin grid2.N, _)
/-- The block of the second convolution's offsets at a point of the grid. -/
theorem idx2_2 : ∀ t : Fin cfg2.N, win2_2.index t = ![0, 0] := (by decide +kernel : ∀ t : Fin grid2.N, _)
/-- The block of the second convolution's result at a point of the grid. -/
theorem idx2_3 : ∀ t : Fin cfg2.N, win2_3.index t = ![0, t.val] := (by decide +kernel : ∀ t : Fin grid2.N, _)

/-- The second convolution's array at a pixel of an image. -/
theorem arr2 (o : Fin 32) (b : Fin 128) (i j : Fin 14) :
    ((dat2 V c).arrAt 3 cfg2.N : FVec Ideal S32x25088 .f32) (ix2 o (px14 b i j))
      = convRelu (fun k i' j' => (V c main_v10 : FVec Ideal S32x25088 .f32) (ix2 k (px14 b i' j')))
        (fun k u v => (V c main_v9 : FVec Ideal S25x32x32 .f32) (ix3 (tapNo u v) o k))
        ((V c main_v11 : FVec Ideal S32x1 .f32) (ix2 o (0 : Fin 1))) i.val j.val := by
  refine (dat2 V c).arrAt_forall_of_covers 3 (fun y v => ∀ (o : Fin 32) (b : Fin 128) (i j : Fin 14), y = ix2 o (px14 b i j) →
    v = convRelu (fun k i' j' => (V c main_v10 : FVec Ideal S32x25088 .f32) (ix2 k (px14 b i' j')))
        (fun k u v => (V c main_v9 : FVec Ideal S25x32x32 .f32) (ix3 (tapNo u v) o k))
        ((V c main_v11 : FVec Ideal S32x1 .f32) (ix2 o (0 : Fin 1))) i.val j.val) (by decide +kernel) (fun t hf y => ?_) (ix2 o (px14 b i j)) (by first | exact Memref.isWhole_whole _ | assumption) o b i j rfl
  intro o b i j hy
  blk_simp
  rw [after2_3, out2_3_eq]
  frame_out
  have h0 := congrArg Fin.val (congrFun hy 0)
  have h1 := congrArg Fin.val (congrFun hy 1)
  blk_simp [idx2_3] at h0 h1
  obtain ⟨ht, hl⟩ := px14_inj (t := t.val) (y 1).isLt h1
  have hyy : y = ix2 o (lane14 ⟨b.val % 32, by omega⟩ i j) := by
    funext a
    match a with
    | ⟨0, _⟩ => exact Fin.ext h0
    | ⟨1, _⟩ => exact Fin.ext hl
  rw [hyy]
  refine (conv2_apply (iblk2 V c 0 t) (iblk2 V c 1 t) (iblk2 V c 2 t) o _ i j).trans ?_
  have e0 : ∀ k i' j', iblk2 V c 0 t (ix2 k (lane14 ⟨b.val % 32, by omega⟩ i' j')) = V c main_v10 (ix2 k (px14 b i' j')) := by
    intro k i' j'
    blk_simp [iblk2]
    refine congrArg (V c main_v10) ?_
    blk_ext [idx2_0, lane14, px14]
  have e1 : ∀ u v k, iblk2 V c 1 t (ix3 (tapNo u v) o k) = V c main_v9 (ix3 (tapNo u v) o k) := by
    intro u v k
    blk_simp [iblk2]
    refine congrArg (V c main_v9) ?_
    blk_ext [idx2_1]
  have e2 : iblk2 V c 2 t (ix2 o (0 : Fin 1)) = V c main_v11 (ix2 o (0 : Fin 1)) := by
    blk_simp [iblk2]
    refine congrArg (V c main_v11) ?_
    blk_ext [idx2_2]
  simp only [e0, e1, e2]

/-- The block of the third convolution's images at a point of the grid. -/
theorem idx4_0 : ∀ t : Fin cfg4.N, win4_0.index t = ![0, t.val] := (by decide +kernel : ∀ t : Fin grid4.N, _)
/-- The block of the third convolution's weights at a point of the grid. -/
theorem idx4_1 : ∀ t : Fin cfg4.N, win4_1.index t = ![0, 0, 0] := (by decide +kernel : ∀ t : Fin grid4.N, _)
/-- The block of the third convolution's offsets at a point of the grid. -/
theorem idx4_2 : ∀ t : Fin cfg4.N, win4_2.index t = ![0, 0] := (by decide +kernel : ∀ t : Fin grid4.N, _)
/-- The block of the third convolution's result at a point of the grid. -/
theorem idx4_3 : ∀ t : Fin cfg4.N, win4_3.index t = ![0, t.val] := (by decide +kernel : ∀ t : Fin grid4.N, _)

/-- The third convolution's array at a pixel of an image. -/
theorem arr4 (o : Fin 64) (b : Fin 128) (i j : Fin 7) :
    ((dat4 V c).arrAt 3 cfg4.N : FVec Ideal S64x25088 .f32) (ix2 o (px14 b ⟨2 * i.val, by omega⟩ ⟨2 * j.val, by omega⟩))
      = pool (convRelu (fun k i' j' => (V c main_v17 : FVec Ideal S32x25088 .f32) (ix2 k (px14 b i' j')))
        (fun k u v => (V c main_v16 : FVec Ideal S25x64x32 .f32) (ix3 (tapNo u v) o k))
        ((V c main_v18 : FVec Ideal S64x1 .f32) (ix2 o (0 : Fin 1)))) i.val j.val := by
  refine (dat4 V c).arrAt_forall_of_covers 3 (fun y v => ∀ (o : Fin 64) (b : Fin 128) (i j : Fin 7), y = ix2 o (px14 b ⟨2 * i.val, by omega⟩ ⟨2 * j.val, by omega⟩) →
    v = pool (convRelu (fun k i' j' => (V c main_v17 : FVec Ideal S32x25088 .f32) (ix2 k (px14 b i' j')))
        (fun k u v => (V c main_v16 : FVec Ideal S25x64x32 .f32) (ix3 (tapNo u v) o k))
        ((V c main_v18 : FVec Ideal S64x1 .f32) (ix2 o (0 : Fin 1)))) i.val j.val) (by decide +kernel) (fun t hf y => ?_) (ix2 o (px14 b ⟨2 * i.val, by omega⟩ ⟨2 * j.val, by omega⟩)) (by first | exact Memref.isWhole_whole _ | assumption) o b i j rfl
  intro o b i j hy
  blk_simp
  rw [after4_3, out4_3_eq]
  frame_out
  have h0 := congrArg Fin.val (congrFun hy 0)
  have h1 := congrArg Fin.val (congrFun hy 1)
  blk_simp [idx4_3] at h0 h1
  obtain ⟨ht, hl⟩ := px14_inj (t := t.val) (y 1).isLt h1
  have hyy : y = ix2 o (lane14 ⟨b.val % 32, by omega⟩ ⟨2 * i.val, by omega⟩ ⟨2 * j.val, by omega⟩) := by
    funext a
    match a with
    | ⟨0, _⟩ => exact Fin.ext h0
    | ⟨1, _⟩ => exact Fin.ext hl
  rw [hyy]
  refine (pool4_apply _ _ o _ (conv4_apply (iblk4 V c 0 t) (iblk4 V c 1 t) (iblk4 V c 2 t) o _) i j).trans ?_
  have e0 : ∀ k i' j', iblk4 V c 0 t (ix2 k (lane14 ⟨b.val % 32, by omega⟩ i' j')) = V c main_v17 (ix2 k (px14 b i' j')) := by
    intro k i' j'
    blk_simp [iblk4]
    refine congrArg (V c main_v17) ?_
    blk_ext [idx4_0, lane14, px14]
  have e1 : ∀ u v k, iblk4 V c 1 t (ix3 (tapNo u v) o k) = V c main_v16 (ix3 (tapNo u v) o k) := by
    intro u v k
    blk_simp [iblk4]
    refine congrArg (V c main_v16) ?_
    blk_ext [idx4_1]
  have e2 : iblk4 V c 2 t (ix2 o (0 : Fin 1)) = V c main_v18 (ix2 o (0 : Fin 1)) := by
    blk_simp [iblk4]
    refine congrArg (V c main_v18) ?_
    blk_ext [idx4_2]
  simp only [e0, e1, e2]

end Cert.KernelIdeal.Val

end
-- ==== Proof.Network.lean ====
/- The whole network over the extended reals, as one function of its arguments: what both programs compute. -/
module

public import proofs.«01_k».proof.Proof.Spec

@[expose] public section

noncomputable section

namespace Cert.Spec

open Idealize.ShloMosaic

/-- The arguments of the network: images, weights and offsets of the layers, and codes. -/
structure Args where
  x : Fin 128 → Fin 1 → Fin 28 → Fin 28 → EReal
  w1 : Fin 32 → Fin 1 → Fin 5 → Fin 5 → EReal
  b1 : Fin 32 → EReal
  w2 : Fin 32 → Fin 32 → Fin 5 → Fin 5 → EReal
  b2 : Fin 32 → EReal
  w3 : Fin 64 → Fin 32 → Fin 5 → Fin 5 → EReal
  b3 : Fin 64 → EReal
  wf : Fin 1024 → Fin 3136 → EReal
  bf : Fin 1024 → EReal
  wl : Fin 10 → Fin 1024 → EReal
  bl : Fin 10 → EReal
  c1 : Fin 32 → Fin 512 → Fin 196 → EReal
  c2 : Fin 32 → Fin 512 → Fin 196 → EReal
  c3 : Fin 64 → Fin 512 → Fin 49 → EReal

/-- The place of row `i` and column `j` of a 14 by 14 image. -/
def at14 (i j : Fin 14) : Fin 196 := ⟨14 * i.val + j.val, by omega⟩

/-- The place of row `i` and column `j` of a 7 by 7 image. -/
def at7 (i j : Fin 7) : Fin 49 := ⟨7 * i.val + j.val, by omega⟩

/-- The place of entry `d` of channel `c` among the features. -/
def feature (c : Fin 64) (d : Fin 49) : Fin 3136 := ⟨49 * c.val + d.val, by omega⟩

/-- Every place of a 14 by 14 image is that of its row and column. -/
theorem at14_surj (e : Fin 196) : ∃ i j, e = at14 i j :=
  ⟨⟨e.val / 14, by omega⟩, ⟨e.val % 14, by omega⟩, Fin.ext (by show e.val = 14 * (e.val / 14) + e.val % 14; omega)⟩

/-- Every place of a 7 by 7 image is that of its row and column. -/
theorem at7_surj (e : Fin 49) : ∃ i j, e = at7 i j :=
  ⟨⟨e.val / 7, by omega⟩, ⟨e.val % 7, by omega⟩, Fin.ext (by show e.val = 7 * (e.val / 7) + e.val % 7; omega)⟩

/-- Every feature is an entry of a channel. -/
theorem feature_surj (f : Fin 3136) : ∃ c d, f = feature c d :=
  ⟨⟨f.val / 49, by omega⟩, ⟨f.val % 49, by omega⟩, Fin.ext (by show f.val = 49 * (f.val / 49) + f.val % 49; omega)⟩

variable (A : Args) (b : Fin 128)

/-- Channel `o` of image `b` after the first convolution and pooling. -/
def conv1 (o : Fin 32) (e : Fin 196) : EReal :=
  pool (convRelu (A.x b) (A.w1 o) (A.b1 o)) (e.val / 14) (e.val % 14)

/-- The code the first nearest-code layer puts in its place. -/
def near1 (o : Fin 32) (e : Fin 196) : EReal := knn (conv1 A b o) (A.c1 o) e

/-- Channel `o` after the second convolution. -/
def conv2 (o : Fin 32) (e : Fin 196) : EReal :=
  convRelu (fun c i j => near1 A b c (at14 i j)) (A.w2 o) (A.b2 o) (e.val / 14) (e.val % 14)

/-- The code the second nearest-code layer puts in its place. -/
def near2 (o : Fin 32) (e : Fin 196) : EReal := knn (conv2 A b o) (A.c2 o) e

/-- Channel `o` after the third convolution and pooling. -/
def conv3 (o : Fin 64) (e : Fin 49) : EReal :=
  pool (convRelu (fun c i j => near2 A b c (at14 i j)) (A.w3 o) (A.b3 o)) (e.val / 7) (e.val % 7)

/-- The code the third nearest-code layer puts in its place. -/
def near3 (o : Fin 64) (e : Fin 49) : EReal := knn (conv3 A b o) (A.c3 o) e

/-- The features of image `b`: all channels one after the other. -/
def features (f : Fin 3136) : EReal := near3 A b ⟨f.val / 49, by omega⟩ ⟨f.val % 49, by omega⟩

/-- The network's ten outputs for image `b`. -/
def network (n : Fin 10) : EReal := fc (features A b) A.wf A.bf A.wl A.bl n

/-- The first convolution at a row and column. -/
theorem conv1_at (o : Fin 32) (i j : Fin 14) : conv1 A b o (at14 i j) = pool (convRelu (A.x b) (A.w1 o) (A.b1 o)) i.val j.val := by
  have h1 : (at14 i j).val / 14 = i.val := by show (14 * i.val + j.val) / 14 = i.val; omega
  have h2 : (at14 i j).val % 14 = j.val := by show (14 * i.val + j.val) % 14 = j.val; omega
  unfold conv1; rw [h1, h2]

/-- The second convolution at a row and column. -/
theorem conv2_at (o : Fin 32) (i j : Fin 14) : conv2 A b o (at14 i j)
    = convRelu (fun c i j => near1 A b c (at14 i j)) (A.w2 o) (A.b2 o) i.val j.val := by
  have h1 : (at14 i j).val / 14 = i.val := by show (14 * i.val + j.val) / 14 = i.val; omega
  have h2 : (at14 i j).val % 14 = j.val := by show (14 * i.val + j.val) % 14 = j.val; omega
  unfold conv2; rw [h1, h2]

/-- The third convolution at a row and column. -/
theorem conv3_at (o : Fin 64) (i j : Fin 7) : conv3 A b o (at7 i j)
    = pool (convRelu (fun c i j => near2 A b c (at14 i j)) (A.w3 o) (A.b3 o)) i.val j.val := by
  have h1 : (at7 i j).val / 7 = i.val := by show (7 * i.val + j.val) / 7 = i.val; omega
  have h2 : (at7 i j).val % 7 = j.val := by show (7 * i.val + j.val) % 7 = j.val; omega
  unfold conv3; rw [h1, h2]

/-- The feature at an entry of a channel. -/
theorem features_at (c : Fin 64) (d : Fin 49) : features A b (feature c d) = near3 A b c d := by
  have h1 : (⟨(feature c d).val / 49, by have := (feature c d).isLt; omega⟩ : Fin 64) = c :=
    Fin.ext (by show (49 * c.val + d.val) / 49 = c.val; omega)
  have h2 : (⟨(feature c d).val % 49, by omega⟩ : Fin 49) = d := Fin.ext (by show (49 * c.val + d.val) % 49 = d.val; omega)
  unfold features; rw [h1, h2]

end Cert.Spec

end
-- ==== Proof.HostK.lean ====
/- What the operations between the kernels leave in the kernels' argument arrays. -/
module

public import proofs.«01_k».proof.Proof.ArrConv
public import proofs.«01_k».proof.Proof.Network
public import Idealize.ShloMosaic.Lib.StableHlo.RunRead

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Spec

variable (V : Valuation τ sig (Elt Ideal))

/-- An array of rank two read as another shape, when the places agree. -/
theorem cast_of_two {A B : ℕ} {t : Shape} (x : FVec Ideal ⟨2, ![A, B]⟩ .f32) (h : Shape.ShapeCasts ⟨2, ![A, B]⟩ t) (j : t.Idx) (a : Fin A) (b : Fin B)
    (hk : a.val * B + b.val = (t.rowMajor j).val) : shapeCast t x h j = x (ix2 a b) :=
  shapeCast_apply _ _ _ _ ((Shape.rowMajor_val_two (ix2 a b)).trans hk)

/-- An array of rank three read as another shape, when the places agree. -/
theorem cast_of_three {A B C : ℕ} {t : Shape} (x : FVec Ideal ⟨3, ![A, B, C]⟩ .f32) (h : Shape.ShapeCasts ⟨3, ![A, B, C]⟩ t) (j : t.Idx) (a : Fin A) (b : Fin B)
    (c : Fin C) (hk : (a.val * B + b.val) * C + c.val = (t.rowMajor j).val) : shapeCast t x h j = x (ix3 a b c) :=
  shapeCast_apply _ _ _ _ ((Shape.rowMajor_val_three (ix3 a b c)).trans hk)

/-- An array of rank four read as another shape, when the places agree. -/
theorem cast_of_four {A B C D : ℕ} {t : Shape} (x : FVec Ideal ⟨4, ![A, B, C, D]⟩ .f32) (h : Shape.ShapeCasts ⟨4, ![A, B, C, D]⟩ t) (j : t.Idx) (a : Fin A) (b : Fin B)
    (c : Fin C) (d : Fin D) (hk : ((a.val * B + b.val) * C + c.val) * D + d.val = (t.rowMajor j).val) : shapeCast t x h j = x (ix4 a b c d) :=
  shapeCast_apply _ _ _ _ ((Shape.rowMajor_val_four (ix4 a b c d)).trans hk)

/-- An array of rank one read as a column. -/
theorem cast_column {A : ℕ} (x : FVec Ideal ⟨1, ![A]⟩ .f32) (h : Shape.ShapeCasts ⟨1, ![A]⟩ ⟨2, ![A, 1]⟩) (a : Fin A) :
    shapeCast ⟨2, ![A, 1]⟩ x h (ix2 a (0 : Fin 1)) = x (ix1 a) :=
  shapeCast_apply _ _ _ _ ((Shape.rowMajor_val_one (ix1 a)).trans (Eq.trans (show a.val = a.val * 1 + 0 by omega)
    (Shape.rowMajor_val_two (ix2 a (0 : Fin 1))).symm))

/-- An array of rank one read as a row. -/
theorem cast_row {A : ℕ} (x : FVec Ideal ⟨1, ![A]⟩ .f32) (h : Shape.ShapeCasts ⟨1, ![A]⟩ ⟨2, ![1, A]⟩) (a : Fin A) :
    shapeCast ⟨2, ![1, A]⟩ x h (ix2 (0 : Fin 1) a) = x (ix1 a) :=
  shapeCast_apply _ _ _ _ ((Shape.rowMajor_val_one (ix1 a)).trans (Eq.trans (show a.val = 0 * A + a.val by omega)
    (Shape.rowMajor_val_two (ix2 (0 : Fin 1) a)).symm))

/-- The first kernel's images. -/
theorem host0_images (b : Fin 128) (i j : Fin 28) :
    ((StableHlo.after hostOps0 V) (Proc.devRef .tc main_v0) : FVec Ideal S1x100352 .f32) (ix2 (0 : Fin 1) (px28 b i j))
      = (V (Proc.devRef .tc main_arg0) : FVec Ideal S128x1x28x28 .f32) (ix4 b 0 i j) := by
  after_reads_simp
  refine cast_of_four _ _ _ b 0 i j (Eq.trans ?_ (Shape.rowMajor_val_two (ix2 (0 : Fin 1) (px28 b i j))).symm)
  show ((b.val * 1 + 0) * 28 + i.val) * 28 + j.val = 0 * 100352 + (784 * b.val + 28 * i.val + j.val)
  omega

/-- The first kernel's weights. -/
theorem host0_weights (o : Fin 32) (u v : Fin 5) :
    ((StableHlo.after hostOps0 V) (Proc.devRef .tc main_v1) : FVec Ideal S32x25 .f32) (ix2 o (tapNo u v))
      = (V (Proc.devRef .tc main_arg1) : FVec Ideal S32x1x5x5 .f32) (ix4 o 0 u v) := by
  after_reads_simp
  refine cast_of_four _ _ _ o 0 u v (Eq.trans ?_ (Shape.rowMajor_val_two (ix2 o (tapNo u v))).symm)
  show ((o.val * 1 + 0) * 5 + u.val) * 5 + v.val = o.val * 25 + (5 * u.val + v.val)
  omega

/-- The first kernel's offsets. -/
theorem host0_offsets (o : Fin 32) :
    ((StableHlo.after hostOps0 V) (Proc.devRef .tc main_v2) : FVec Ideal S32x1 .f32) (ix2 o (0 : Fin 1))
      = (V (Proc.devRef .tc main_arg2) : FVec Ideal S32 .f32) (ix1 o) := by
  after_reads_simp
  exact cast_column _ _ o

/-- The second convolution kernel's offsets. -/
theorem host2_offsets (o : Fin 32) :
    ((StableHlo.after hostOps2 V) (Proc.devRef .tc main_v11) : FVec Ideal S32x1 .f32) (ix2 o (0 : Fin 1))
      = (V (Proc.devRef .tc main_arg4) : FVec Ideal S32 .f32) (ix1 o) := by
  after_reads_simp
  exact cast_column _ _ o

/-- The third convolution kernel's offsets. -/
theorem host4_offsets (o : Fin 64) :
    ((StableHlo.after hostOps4 V) (Proc.devRef .tc main_v18) : FVec Ideal S64x1 .f32) (ix2 o (0 : Fin 1))
      = (V (Proc.devRef .tc main_arg6) : FVec Ideal S64 .f32) (ix1 o) := by
  after_reads_simp
  exact cast_column _ _ o

/-- The dense kernel's first offsets. -/
theorem host6_offsets1024 (o : Fin 1024) :
    ((StableHlo.after hostOps6 V) (Proc.devRef .tc main_v26) : FVec Ideal S1x1024 .f32) (ix2 (0 : Fin 1) o)
      = (V (Proc.devRef .tc main_arg8) : FVec Ideal S1024 .f32) (ix1 o) := by
  after_reads_simp
  exact cast_row _ _ o

/-- The dense kernel's second offsets. -/
theorem host6_offsets10 (o : Fin 10) :
    ((StableHlo.after hostOps6 V) (Proc.devRef .tc main_v27) : FVec Ideal S1x10 .f32) (ix2 (0 : Fin 1) o)
      = (V (Proc.devRef .tc main_arg10) : FVec Ideal S10 .f32) (ix1 o) := by
  after_reads_simp
  exact cast_row _ _ o

/-- The first nearest-code kernel's vectors: every second row and column of the convolution's array. -/
theorem host1_vectors (o : Fin 32) (b : Fin 128) (i j : Fin 14) :
    ((StableHlo.after hostOps1 V) (Proc.devRef .tc main_v6) : FVec Ideal S32x128x196 .f32) (ix3 o b (at14 i j))
      = (V (Proc.devRef .tc main_v3) : FVec Ideal S32x100352 .f32) (ix2 o (px28 b ⟨2 * i.val, by omega⟩ ⟨2 * j.val, by omega⟩)) := by
  after_reads_simp
  refine (cast_of_four _ _ _ o b i j (Eq.trans ?_ (Shape.rowMajor_val_three (ix3 o b (at14 i j))).symm)).trans ?_
  · show ((o.val * 128 + b.val) * 14 + i.val) * 14 + j.val = (o.val * 128 + b.val) * 196 + (14 * i.val + j.val)
    omega
  rw [Host.slice_apply]
  refine cast_of_two _ _ _ o _ (Eq.trans ?_ (Shape.rowMajor_val_four (d := ![32, 128, 28, 28]) _).symm)
  show o.val * 100352 + (784 * b.val + 28 * (2 * i.val) + 2 * j.val)
    = (((0 + 1 * o.val) * 128 + (0 + 1 * b.val)) * 28 + (0 + 2 * i.val)) * 28 + (0 + 2 * j.val)
  omega

/-- The third nearest-code kernel's vectors: every second row and column of the convolution's array. -/
theorem host5_vectors (o : Fin 64) (b : Fin 128) (i j : Fin 7) :
    ((StableHlo.after hostOps5 V) (Proc.devRef .tc main_v22) : FVec Ideal S64x128x49 .f32) (ix3 o b (at7 i j))
      = (V (Proc.devRef .tc main_v19) : FVec Ideal S64x25088 .f32) (ix2 o (px14 b ⟨2 * i.val, by omega⟩ ⟨2 * j.val, by omega⟩)) := by
  after_reads_simp
  refine (cast_of_four _ _ _ o b i j (Eq.trans ?_ (Shape.rowMajor_val_three (ix3 o b (at7 i j))).symm)).trans ?_
  · show ((o.val * 128 + b.val) * 7 + i.val) * 7 + j.val = (o.val * 128 + b.val) * 49 + (7 * i.val + j.val)
    omega
  rw [Host.slice_apply]
  refine cast_of_two _ _ _ o _ (Eq.trans ?_ (Shape.rowMajor_val_four (d := ![64, 128, 14, 14]) _).symm)
  show o.val * 25088 + (196 * b.val + 14 * (2 * i.val) + 2 * j.val)
    = (((0 + 1 * o.val) * 128 + (0 + 1 * b.val)) * 14 + (0 + 2 * i.val)) * 14 + (0 + 2 * j.val)
  omega

/-- The second convolution kernel's images. -/
theorem host2_images (k : Fin 32) (b : Fin 128) (i j : Fin 14) :
    ((StableHlo.after hostOps2 V) (Proc.devRef .tc main_v10) : FVec Ideal S32x25088 .f32) (ix2 k (px14 b i j))
      = (V (Proc.devRef .tc main_v7) : FVec Ideal S32x128x196 .f32) (ix3 k b (at14 i j)) := by
  after_reads_simp
  refine cast_of_three _ _ _ k b (at14 i j) (Eq.trans ?_ (Shape.rowMajor_val_two (ix2 k (px14 b i j))).symm)
  show (k.val * 128 + b.val) * 196 + (14 * i.val + j.val) = k.val * 25088 + (196 * b.val + 14 * i.val + j.val)
  omega

/-- The second convolution kernel's weights: one matrix for each tap. -/
theorem host2_weights (o : Fin 32) (k : Fin 32) (u v : Fin 5) :
    ((StableHlo.after hostOps2 V) (Proc.devRef .tc main_v9) : FVec Ideal S25x32x32 .f32) (ix3 (tapNo u v) o k)
      = (V (Proc.devRef .tc main_arg3) : FVec Ideal S32x32x5x5 .f32) (ix4 o k u v) := by
  after_reads_simp
  pointwise
  exact congrArg₂ (fun u v => (V (Proc.devRef .tc main_arg3) : FVec Ideal S32x32x5x5 .f32) (ix4 o k u v)) (Fin.ext (by show (5 * u.val + v.val) / 5 = u.val; omega))
    (Fin.ext (by show (5 * u.val + v.val) % 5 = v.val; omega))

/-- The third convolution kernel's images. -/
theorem host4_images (k : Fin 32) (b : Fin 128) (i j : Fin 14) :
    ((StableHlo.after hostOps4 V) (Proc.devRef .tc main_v17) : FVec Ideal S32x25088 .f32) (ix2 k (px14 b i j))
      = (V (Proc.devRef .tc main_v14) : FVec Ideal S32x128x196 .f32) (ix3 k b (at14 i j)) := by
  after_reads_simp
  refine cast_of_three _ _ _ k b (at14 i j) (Eq.trans ?_ (Shape.rowMajor_val_two (ix2 k (px14 b i j))).symm)
  show (k.val * 128 + b.val) * 196 + (14 * i.val + j.val) = k.val * 25088 + (196 * b.val + 14 * i.val + j.val)
  omega

/-- The third convolution kernel's weights: one matrix for each tap. -/
theorem host4_weights (o : Fin 64) (k : Fin 32) (u v : Fin 5) :
    ((StableHlo.after hostOps4 V) (Proc.devRef .tc main_v16) : FVec Ideal S25x64x32 .f32) (ix3 (tapNo u v) o k)
      = (V (Proc.devRef .tc main_arg5) : FVec Ideal S64x32x5x5 .f32) (ix4 o k u v) := by
  after_reads_simp
  pointwise
  exact congrArg₂ (fun u v => (V (Proc.devRef .tc main_arg5) : FVec Ideal S64x32x5x5 .f32) (ix4 o k u v)) (Fin.ext (by show (5 * u.val + v.val) / 5 = u.val; omega))
    (Fin.ext (by show (5 * u.val + v.val) % 5 = v.val; omega))

/-- The second nearest-code kernel's vectors. -/
theorem host3_vectors (o : Fin 32) (b : Fin 128) (i j : Fin 14) :
    ((StableHlo.after hostOps3 V) (Proc.devRef .tc main_v13) : FVec Ideal S32x128x196 .f32) (ix3 o b (at14 i j))
      = (V (Proc.devRef .tc main_v12) : FVec Ideal S32x25088 .f32) (ix2 o (px14 b i j)) := by
  after_reads_simp
  refine cast_of_two _ _ _ o (px14 b i j) (Eq.trans ?_ (Shape.rowMajor_val_three (ix3 o b (at14 i j))).symm)
  show o.val * 25088 + (196 * b.val + 14 * i.val + j.val) = (o.val * 128 + b.val) * 196 + (14 * i.val + j.val)
  omega

/-- The dense kernel's features. -/
theorem host6_features (b : Fin 128) (c : Fin 64) (d : Fin 49) :
    ((StableHlo.after hostOps6 V) (Proc.devRef .tc main_v25) : FVec Ideal S128x3136 .f32) (ix2 b (feature c d))
      = (V (Proc.devRef .tc main_v23) : FVec Ideal S64x128x49 .f32) (ix3 c b d) := by
  after_reads_simp
  refine (cast_of_three _ _ _ b c d (Eq.trans ?_ (Shape.rowMajor_val_two (ix2 b (feature c d))).symm)).trans ?_
  · show (b.val * 64 + c.val) * 49 + d.val = b.val * 3136 + (49 * c.val + d.val)
    omega
  pointwise

end Cert.KernelIdeal.Val

end
-- ==== Proof.NetK.lean ====
/- The kernel's result is the network's output: its kernels put together. -/
module

public import proofs.«01_k».proof.Proof.ArrKnn
public import proofs.«01_k».proof.Proof.ArrFc
public import proofs.«01_k».proof.Proof.HostK

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Spec

/-- Equal channels, weights and offsets give equal convolutions. -/
theorem convRelu_eq {C H W : ℕ} {X X' : Fin C → Fin H → Fin W → EReal} {w w' : Fin C → Fin 5 → Fin 5 → EReal} {β β' : EReal}
    (hX : ∀ c i j, X c i j = X' c i j) (hw : ∀ c u v, w c u v = w' c u v) (hβ : β = β') : convRelu X w β = convRelu X' w' β' := by
  rw [show X = X' from funext fun c => funext fun i => funext fun j => hX c i j,
    show w = w' from funext fun c => funext fun u => funext fun v => hw c u v, hβ]

/-- Equal vectors and codes give the same nearest code. -/
theorem knn_eq {D N : ℕ} [NeZero N] {x x' : Fin D → EReal} {cb cb' : Fin N → Fin D → EReal} (hx : ∀ e, x e = x' e)
    (hc : ∀ k e, cb k e = cb' k e) (d : Fin D) : knn x cb d = knn x' cb' d := by
  rw [show x = x' from funext hx, show cb = cb' from funext fun k => funext fun e => hc k e]

/-- Equal features, weights and offsets give equal dense layers. -/
theorem fc_eq {A B C : ℕ} {h h' : Fin A → EReal} {w w' : Fin B → Fin A → EReal} {β β' : Fin B → EReal} {v v' : Fin C → Fin B → EReal}
    {γ γ' : Fin C → EReal} (hh : ∀ f, h f = h' f) (hw : ∀ k f, w k f = w' k f) (hβ : ∀ k, β k = β' k) (hv : ∀ o k, v o k = v' o k)
    (hγ : ∀ o, γ o = γ' o) (o : Fin C) : fc h w β v γ o = fc h' w' β' v' γ' o := by
  rw [show h = h' from funext hh, show w = w' from funext fun k => funext fun f => hw k f, show β = β' from funext hβ,
    show v = v' from funext fun o => funext fun k => hv o k, show γ = γ' from funext hγ]

/-- The network's arguments read off the kernel's arrays. -/
def argsOf (V : Valuation τ sig (Elt Ideal)) : Args where
  x := fun b c i j => (V (Proc.devRef .tc main_arg0) : FVec Ideal S128x1x28x28 .f32) (ix4 b c i j)
  w1 := fun o c u v => (V (Proc.devRef .tc main_arg1) : FVec Ideal S32x1x5x5 .f32) (ix4 o c u v)
  b1 := fun o => (V (Proc.devRef .tc main_arg2) : FVec Ideal S32 .f32) (ix1 o)
  w2 := fun o c u v => (V (Proc.devRef .tc main_arg3) : FVec Ideal S32x32x5x5 .f32) (ix4 o c u v)
  b2 := fun o => (V (Proc.devRef .tc main_arg4) : FVec Ideal S32 .f32) (ix1 o)
  w3 := fun o c u v => (V (Proc.devRef .tc main_arg5) : FVec Ideal S64x32x5x5 .f32) (ix4 o c u v)
  b3 := fun o => (V (Proc.devRef .tc main_arg6) : FVec Ideal S64 .f32) (ix1 o)
  wf := fun k f => (V (Proc.devRef .tc main_arg7) : FVec Ideal S1024x3136 .f32) (ix2 k f)
  bf := fun k => (V (Proc.devRef .tc main_arg8) : FVec Ideal S1024 .f32) (ix1 k)
  wl := fun o k => (V (Proc.devRef .tc main_arg9) : FVec Ideal S10x1024 .f32) (ix2 o k)
  bl := fun o => (V (Proc.devRef .tc main_arg10) : FVec Ideal S10 .f32) (ix1 o)
  c1 := fun o k e => (V (Proc.devRef .tc main_arg11) : FVec Ideal S32x512x196 .f32) (ix3 o k e)
  c2 := fun o k e => (V (Proc.devRef .tc main_arg12) : FVec Ideal S32x512x196 .f32) (ix3 o k e)
  c3 := fun o k e => (V (Proc.devRef .tc main_arg13) : FVec Ideal S64x512x49 .f32) (ix3 o k e)

variable (m : (ℓ : Loc nD τ sig) → Buf (Elt Ideal) ℓ) (ρ : Dev nD → PrngReg) (c : Dev nD)

/-- The first kernel's array, at an even row and column. -/
theorem net_pool1 (o : Fin 32) (b : Fin 128) (i j : Fin 14) :
    (W2 m ρ c (Proc.devRef .tc main_v3) : FVec Ideal S32x100352 .f32) (ix2 o (px28 b ⟨2 * i.val, by omega⟩ ⟨2 * j.val, by omega⟩))
      = Spec.conv1 (argsOf (W0 m ρ c)) b o (at14 i j) := by
  rw [conv1_at, show W2 m ρ c (Proc.devRef .tc main_v3) = (dat0 (V1 m ρ) c).arrAt 3 cfg0.N from W2_arr m ρ c 3]
  refine (arr0 (V1 m ρ) c o b i j).trans (congrArg (fun Y => Spec.pool Y i.val j.val) (convRelu_eq (fun k i j => ?_) (fun k u v => ?_) ?_))
  · obtain rfl : k = 0 := Subsingleton.elim _ _
    exact host0_images (W0 m ρ c) b i j
  · obtain rfl : k = 0 := Subsingleton.elim _ _
    exact host0_weights (W0 m ρ c) o u v
  · exact host0_offsets (W0 m ρ c) o

/-- The first nearest-code kernel's vectors. -/
theorem net_conv1 (o : Fin 32) (b : Fin 128) (e : Fin 196) :
    (W3 m ρ c (Proc.devRef .tc main_v6) : FVec Ideal S32x128x196 .f32) (ix3 o b e) = Spec.conv1 (argsOf (W0 m ρ c)) b o e := by
  obtain ⟨i, j, rfl⟩ := at14_surj e
  exact (host1_vectors (W2 m ρ c) o b i j).trans (net_pool1 m ρ c o b i j)

/-- The first nearest-code kernel's array. -/
theorem net_near1 (o : Fin 32) (b : Fin 128) (d : Fin 196) :
    (W4 m ρ c (Proc.devRef .tc main_v7) : FVec Ideal S32x128x196 .f32) (ix3 o b d) = near1 (argsOf (W0 m ρ c)) b o d := by
  rw [show W4 m ρ c (Proc.devRef .tc main_v7) = (dat1 (V3 m ρ) c).arrAt 2 cfg1.N from W4_arr m ρ c 2]
  refine (arr1 (V3 m ρ) c o b d).trans (knn_eq (fun e => ?_) (fun k e => ?_) d)
  · exact net_conv1 m ρ c o b e
  · exact congrFun (W3_args m ρ c main_arg11 (by decide)) _

/-- The second convolution kernel's array. -/
theorem net_relu2 (o : Fin 32) (b : Fin 128) (i j : Fin 14) :
    (W6 m ρ c (Proc.devRef .tc main_v12) : FVec Ideal S32x25088 .f32) (ix2 o (px14 b i j)) = Spec.conv2 (argsOf (W0 m ρ c)) b o (at14 i j) := by
  rw [conv2_at, show W6 m ρ c (Proc.devRef .tc main_v12) = (dat2 (V5 m ρ) c).arrAt 3 cfg2.N from W6_arr m ρ c 3]
  refine (arr2 (V5 m ρ) c o b i j).trans (congrArg (fun Y : ℕ → ℕ → EReal => Y i.val j.val) (convRelu_eq (fun k i j => ?_) (fun k u v => ?_) ?_))
  · exact (host2_images (W4 m ρ c) k b i j).trans (net_near1 m ρ c k b (at14 i j))
  · exact (host2_weights (W4 m ρ c) o k u v).trans (congrFun (W4_args m ρ c main_arg3 (by decide)) _)
  · exact (host2_offsets (W4 m ρ c) o).trans (congrFun (W4_args m ρ c main_arg4 (by decide)) _)

/-- The second nearest-code kernel's vectors. -/
theorem net_conv2 (o : Fin 32) (b : Fin 128) (e : Fin 196) :
    (W7 m ρ c (Proc.devRef .tc main_v13) : FVec Ideal S32x128x196 .f32) (ix3 o b e) = Spec.conv2 (argsOf (W0 m ρ c)) b o e := by
  obtain ⟨i, j, rfl⟩ := at14_surj e
  exact (host3_vectors (W6 m ρ c) o b i j).trans (net_relu2 m ρ c o b i j)

/-- The second nearest-code kernel's array. -/
theorem net_near2 (o : Fin 32) (b : Fin 128) (d : Fin 196) :
    (W8 m ρ c (Proc.devRef .tc main_v14) : FVec Ideal S32x128x196 .f32) (ix3 o b d) = near2 (argsOf (W0 m ρ c)) b o d := by
  rw [show W8 m ρ c (Proc.devRef .tc main_v14) = (dat3 (V7 m ρ) c).arrAt 2 cfg3.N from W8_arr m ρ c 2]
  refine (arr3 (V7 m ρ) c o b d).trans (knn_eq (fun e => ?_) (fun k e => ?_) d)
  · exact net_conv2 m ρ c o b e
  · exact congrFun (W7_args m ρ c main_arg12 (by decide)) _

/-- The third convolution kernel's array, at an even row and column. -/
theorem net_pool3 (o : Fin 64) (b : Fin 128) (i j : Fin 7) :
    (W10 m ρ c (Proc.devRef .tc main_v19) : FVec Ideal S64x25088 .f32) (ix2 o (px14 b ⟨2 * i.val, by omega⟩ ⟨2 * j.val, by omega⟩))
      = Spec.conv3 (argsOf (W0 m ρ c)) b o (at7 i j) := by
  rw [conv3_at, show W10 m ρ c (Proc.devRef .tc main_v19) = (dat4 (V9 m ρ) c).arrAt 3 cfg4.N from W10_arr m ρ c 3]
  refine (arr4 (V9 m ρ) c o b i j).trans (congrArg (fun Y => Spec.pool Y i.val j.val) (convRelu_eq (fun k i j => ?_) (fun k u v => ?_) ?_))
  · exact (host4_images (W8 m ρ c) k b i j).trans (net_near2 m ρ c k b (at14 i j))
  · exact (host4_weights (W8 m ρ c) o k u v).trans (congrFun (W8_args m ρ c main_arg5 (by decide)) _)
  · exact (host4_offsets (W8 m ρ c) o).trans (congrFun (W8_args m ρ c main_arg6 (by decide)) _)

/-- The third nearest-code kernel's vectors. -/
theorem net_conv3 (o : Fin 64) (b : Fin 128) (e : Fin 49) :
    (W11 m ρ c (Proc.devRef .tc main_v22) : FVec Ideal S64x128x49 .f32) (ix3 o b e) = Spec.conv3 (argsOf (W0 m ρ c)) b o e := by
  obtain ⟨i, j, rfl⟩ := at7_surj e
  exact (host5_vectors (W10 m ρ c) o b i j).trans (net_pool3 m ρ c o b i j)

/-- The third nearest-code kernel's array. -/
theorem net_near3 (o : Fin 64) (b : Fin 128) (d : Fin 49) :
    (W12 m ρ c (Proc.devRef .tc main_v23) : FVec Ideal S64x128x49 .f32) (ix3 o b d) = near3 (argsOf (W0 m ρ c)) b o d := by
  rw [show W12 m ρ c (Proc.devRef .tc main_v23) = (dat5 (V11 m ρ) c).arrAt 2 cfg5.N from W12_arr m ρ c 2]
  refine (arr5 (V11 m ρ) c o b d).trans (knn_eq (fun e => ?_) (fun k e => ?_) d)
  · exact net_conv3 m ρ c o b e
  · exact congrFun (W11_args m ρ c main_arg13 (by decide)) _

/-- The kernel's result at an image and an output is the network's. -/
theorem net_result (b : Fin 128) (n : Fin 10) :
    (W14 m ρ c (Proc.devRef .tc main_v28) : FVec Ideal S128x10 .f32) (ix2 b n) = network (argsOf (W0 m ρ c)) b n := by
  rw [show W14 m ρ c (Proc.devRef .tc main_v28) = (dat6 (V13 m ρ) c).arrAt 5 cfg6.N from W14_arr m ρ c 5]
  refine (arr6 (V13 m ρ) c b n).trans (fc_eq (fun f => ?_) (fun k f => ?_) (fun k => ?_) (fun o k => ?_) (fun o => ?_) n)
  · obtain ⟨p, d, rfl⟩ := feature_surj f
    rw [features_at]
    exact (host6_features (W12 m ρ c) b p d).trans (net_near3 m ρ c p b d)
  · exact congrFun (W13_args m ρ c main_arg7 (by decide)) _
  · exact (host6_offsets1024 (W12 m ρ c) k).trans (congrFun (W12_args m ρ c main_arg8 (by decide)) _)
  · exact congrFun (W13_args m ρ c main_arg9 (by decide)) _
  · exact (host6_offsets10 (W12 m ρ c) o).trans (congrFun (W12_args m ρ c main_arg10 (by decide)) _)

end Cert.KernelIdeal.Val

end
-- ==== Proof.RunR.lean ====
/- The reference program's run: its operations in order, and the arrays at the end as the fold of those operations over the
   launch contents. -/
module

public import proofs.«01_k».proof.Proof.Gen.ReferenceIdeal
public import Idealize.ShloMosaic.Lib.StableHlo.RunHlo
public import Idealize.ShloMosaic.Lib.StableHlo.RunRead
public import Idealize.ShloMosaic.Lib.Claim

@[expose] public section

set_option maxRecDepth 16384

noncomputable section

namespace Cert.ReferenceIdeal.Val

open Idealize.ShloMosaic Idealize.ShloMosaic.TcCoe Idealize.SL.Sem
open Cert.ReferenceIdeal Cert.ReferenceIdeal.Gen

variable {F : FTy → Type} [FloatOps F]

/-- A straight line followed by a straight line is the straight line of both lists of operations. -/
theorem isSeq_append {p k : Prog (TpuEff nD τ sig (Elt F) (Pipeline.Sig Λ₀ (Fin 0) fun p => (pcfgs (F := F) p).Adm) .tc) PUnit}
    {l₁ l₂ : List (HloOp τ sig (Elt F))} (h₁ : StableHlo.IsSeq p l₁) (h₂ : StableHlo.IsSeq k l₂) :
    StableHlo.IsSeq (p >>= fun _ => k) (l₁ ++ l₂) := by
  unfold StableHlo.IsSeq at *
  subst h₁ h₂
  induction l₁ with
  | nil => rfl
  | cons op l ih => exact congrArg (fun q => hlo rfl op (fun _ => .ret (⟨⟩ : PUnit)) >>= fun _ => q) ih

/-- The operations of the first part of the program, read off it. -/
def ops0 : {l : List (HloOp τ sig (Elt F)) // ∀ d, StableHlo.IsSeq (main_part0 (F := F) d) l} := by
  apply Subtype.mk
  intro d
  unfold main_part0 fn_pad.body fn_relu.body fn_argmin.body
  repeat (first | exact StableHlo.IsSeq.nil | apply StableHlo.IsSeq.cons | apply isSeq_append)

/-- The operations of the second part of the program, read off it. -/
def ops1 : {l : List (HloOp τ sig (Elt F)) // ∀ d, StableHlo.IsSeq (main_part1 (F := F) d) l} := by
  apply Subtype.mk
  intro d
  unfold main_part1 fn_pad_0.body
  repeat (first | exact StableHlo.IsSeq.nil | apply StableHlo.IsSeq.cons | apply isSeq_append)

/-- The operations of the third part of the program, read off it. -/
def ops2 : {l : List (HloOp τ sig (Elt F)) // ∀ d, StableHlo.IsSeq (main_part2 (F := F) d) l} := by
  apply Subtype.mk
  intro d
  unfold main_part2 fn_relu_1.body fn_argmin.body fn_pad_0.body
  repeat (first | exact StableHlo.IsSeq.nil | apply StableHlo.IsSeq.cons | apply isSeq_append)

/-- The operations of the fourth part of the program, read off it. -/
def ops3 : {l : List (HloOp τ sig (Elt F)) // ∀ d, StableHlo.IsSeq (main_part3 (F := F) d) l} := by
  apply Subtype.mk
  intro d
  unfold main_part3 fn_relu_2.body fn_argmin_3.body
  repeat (first | exact StableHlo.IsSeq.nil | apply StableHlo.IsSeq.cons | apply isSeq_append)

/-- The operations of the fifth part of the program, read off it. -/
def ops4 : {l : List (HloOp τ sig (Elt F)) // ∀ d, StableHlo.IsSeq (main_part4 (F := F) d) l} := by
  apply Subtype.mk
  intro d
  unfold main_part4 fn_relu_4.body
  repeat (first | exact StableHlo.IsSeq.nil | apply StableHlo.IsSeq.cons | apply isSeq_append)

/-- All operations of the program, in order. -/
abbrev ops : List (HloOp τ sig (Elt F)) := ops0.1 ++ (ops1.1 ++ (ops2.1 ++ (ops3.1 ++ ops4.1)))

/-- The program is the straight line of its operations. -/
theorem main_isSeq (d : Dev nD) : StableHlo.IsSeq (main (F := F) d) ops := by
  unfold main
  exact isSeq_append (ops0.2 d) (isSeq_append (ops1.2 d) (isSeq_append (ops2.2 d) (isSeq_append (ops3.2 d) (ops4.2 d))))

/-- Every operation of the program works on the core's arrays. -/
theorem ops_bufs : (ops (F := F)).Forall fun op => op.bufs ⊆ StableHlo.tcRefs τ sig := by
  simp only [ops, ops0, ops1, ops2, ops3, ops4, List.cons_append, List.nil_append, List.Forall, StableHlo.TRef.nullary,
    StableHlo.TRef.unary, StableHlo.TRef.binary, StableHlo.TRef.quaternary, StableHlo.nullary_bufs_sub,
    StableHlo.unary_bufs_sub, StableHlo.binary_bufs_sub, StableHlo.ternary_bufs_sub, StableHlo.quaternary_bufs_sub,
    StableHlo.reshape_bufs_sub, StableHlo.nary_bufs_sub, and_self]

/-- No operation of the program allocates an array. -/
theorem ops_fresh : ∀ op ∈ (ops (F := F)), op.fresh = ∅ := by
  rw [← List.forall_iff_forall_mem]
  simp only [ops, ops0, ops1, ops2, ops3, ops4, List.cons_append, List.nil_append, List.Forall]
  repeat' constructor

variable (V : Valuation τ sig (Elt F))

/-- The arrays after the first `n` operations, from the arrays `V`. -/
def U (n : ℕ) : Valuation τ sig (Elt F) := StableHlo.after (ops.take n) V

/-- The operations from place `a` up to place `b`. -/
def stage (a b : ℕ) : List (HloOp τ sig (Elt F)) := (ops.drop a).take (b - a)

/-- The operations from place `a` to place `b` lead from the arrays after `a` operations to those after `b`. -/
theorem U_stage {a b : ℕ} (h : a ≤ b) : U V b = StableHlo.after (stage a b) (U V a) := by
  unfold U stage
  conv_lhs => rw [← Nat.add_sub_cancel' h, List.take_add]
  exact StableHlo.after_append _ _ _

/-- The program's argument arrays. -/
abbrev argRefs : List (Ref sig .tc) := [main_arg0, main_arg1, main_arg2, main_arg3, main_arg4, main_arg5, main_arg6,
  main_arg7, main_arg8, main_arg9, main_arg10, main_arg11, main_arg12, main_arg13]

/-- An operation that writes one array, not an argument, writes no argument. -/
theorem keeps_of {op : HloOp τ sig (Elt F)} {y : Ref sig .tc} (h : op.writes = {Proc.devRef (τ := τ) .tc y}) (hy : y ∉ argRefs) :
    ∀ a ∈ argRefs, Proc.devRef (τ := τ) .tc a ∉ op.writes := by
  intro a ha hb
  rw [h, Finset.mem_singleton] at hb
  exact hy (Proc.devRef_injective _ hb ▸ ha)

set_option maxHeartbeats 4000000 in
/-- No operation of the program writes an argument. -/
theorem ops_keep : (ops (F := F)).Forall fun op => ∀ a ∈ argRefs, Proc.devRef (τ := τ) .tc a ∉ op.writes := by
  simp only [ops, ops0, ops1, ops2, ops3, ops4, List.cons_append, List.nil_append, List.Forall]
  repeat' (first | apply And.intro | exact keeps_of rfl (by decide))

/-- An argument holds its launch contents after any number of operations. -/
theorem U_arg (n : ℕ) {a : Ref sig .tc} (ha : a ∈ argRefs) : U V n (Proc.devRef .tc a) = V (Proc.devRef .tc a) :=
  StableHlo.after_of_forall_not_mem _ V fun op hop =>
    (List.forall_iff_forall_mem.mp ops_keep) op (List.mem_of_mem_take hop) a ha

variable (m : (ℓ : Loc nD τ sig) → Buf (Elt F) ℓ) (ρ : Dev nD → PrngReg)

/-- The program ends with every array of the core as its operations leave it. -/
theorem run : θ_run defs (onTc (τ := τ) (main (F := F))) ⟨m, fun _ => 0, ρ⟩ (fun r => ∀ (d : Dev nD) (b : Ref sig .tc),
    r.2.mem ((d.tc : Thread nD τ).loc b) = U (StableHlo.launchContents m d) 284 (Proc.devRef .tc b)) :=
  StableHlo.run_hlo defs main main_isSeq (by decide) (by decide) ops_bufs ops_fresh m ρ

end Cert.ReferenceIdeal.Val

end
-- ==== Proof.RefGather.lean ====
/- A reference's gathers, read at an index: whole rows by a table of row numbers, single columns by a table of column
numbers, and codes by a table of pairs. -/
module

public import Idealize.ShloMosaic.Lib.Pointwise
public import Idealize.ShloMosaic.Lib.KernelVsHost

@[expose] public section

set_option maxRecDepth 16384

noncomputable section

namespace Cert.ReferenceIdeal.Val

open Idealize.ShloMosaic Idealize.ShloMosaic.Tactic

variable {α : Type}

/-- The dimension numbers of a gather of rows: axis 2 of four is picked by a table of numbers. -/
abbrev rowDims (B C H W O K : ℕ)
    (wf : GatherDims.WF ⟨4, ![B, C, H, W]⟩ ⟨3, ![O, K, 1]⟩ ⟨5, ![B, C, O, K, W]⟩ [0, 1, 4] [2] [] [2] [] 2 ![B, C, 1, W]) :
    GatherDims ⟨4, ![B, C, H, W]⟩ ⟨3, ![O, K, 1]⟩ ⟨5, ![B, C, O, K, W]⟩ where
  offsetDims := [0, 1, 4]
  collapsedSliceDims := [2]
  operandBatchingDims := []
  startIndicesBatchingDims := []
  startIndexMap := [2]
  indexVectorDim := 2
  sliceSizes := ![B, C, 1, W]
  wf := wf

/-- A gather of rows at an index: the row the table names, clamped to the last one. -/
theorem gather_rows_apply {B C H W O K w : ℕ} (hH : 0 < H) (wf) (x : (⟨4, ![B, C, H, W]⟩ : Shape).Idx → α)
    (idx : IVec ⟨3, ![O, K, 1]⟩ w) (b : Fin B) (c : Fin C) (o : Fin O) (k : Fin K) (q : Fin W) :
    Host.gather (rowDims B C H W O K wf) x idx (ix5 b c o k q)
      = x (ix4 b c ⟨min (idx (ix3 o k (0 : Fin 1))).toInt.toNat (H - 1), by omega⟩ q) := by
  have hsi : ∀ h, (rowDims B C H W O K wf).siIdx (ix5 b c o k q) ⟨List.idxOf (2 : Fin 4) [2], h⟩ = ix3 o k (0 : Fin 1) := by
    intro h; funext e; refine Fin.ext ?_
    match e with
    | ⟨0, _⟩ => rfl
    | ⟨1, _⟩ => rfl
    | ⟨2, _⟩ => rfl
  unfold Host.gather
  congr 1
  funext a
  refine Fin.ext ?_
  show (rowDims B C H W O K wf).start (ix5 b c o k q) idx a + (rowDims B C H W O K wf).batchCoord (ix5 b c o k q) a
    + (rowDims B C H W O K wf).offCoord (ix5 b c o k q) a = _
  rw [GatherDims.batchCoord_eq_zero _ _ _ List.not_mem_nil, Nat.add_zero]
  match a with
  | ⟨0, _⟩ => exact Nat.zero_add _
  | ⟨1, _⟩ => exact Nat.zero_add _
  | ⟨2, _⟩ =>
    rw [GatherDims.offCoord_eq_zero _ _ _ (fun h => ((GatherDims.mem_sKept _ _).mp h).1 (List.mem_singleton.mpr rfl))]
    rw [Nat.add_zero]
    refine Eq.trans (dif_pos (show (2 : Fin 4) ∈ [(2 : Fin 4)] by decide)) ?_
    exact congrArg (fun z => min (idx z).toInt.toNat (H - 1)) (hsi _)
  | ⟨3, _⟩ => exact Nat.zero_add _

/-- The dimension numbers of a gather of columns: axis 4 of five is picked by a table of numbers. -/
abbrev colDims (B C O K W P Q : ℕ)
    (wf : GatherDims.WF ⟨5, ![B, C, O, K, W]⟩ ⟨3, ![P, Q, 1]⟩ ⟨6, ![B, C, O, K, P, Q]⟩ [0, 1, 2, 3] [4] [] [4] [] 2 ![B, C, O, K, 1]) :
    GatherDims ⟨5, ![B, C, O, K, W]⟩ ⟨3, ![P, Q, 1]⟩ ⟨6, ![B, C, O, K, P, Q]⟩ where
  offsetDims := [0, 1, 2, 3]
  collapsedSliceDims := [4]
  operandBatchingDims := []
  startIndicesBatchingDims := []
  startIndexMap := [4]
  indexVectorDim := 2
  sliceSizes := ![B, C, O, K, 1]
  wf := wf

/-- A gather of columns at an index: the column the table names, clamped to the last one. -/
theorem gather_cols_apply {B C O K W P Q w : ℕ} (hW : 0 < W) (wf) (x : (⟨5, ![B, C, O, K, W]⟩ : Shape).Idx → α)
    (idx : IVec ⟨3, ![P, Q, 1]⟩ w) (b : Fin B) (c : Fin C) (o : Fin O) (k : Fin K) (p : Fin P) (q : Fin Q) :
    Host.gather (colDims B C O K W P Q wf) x idx (ix6 b c o k p q)
      = x (ix5 b c o k ⟨min (idx (ix3 p q (0 : Fin 1))).toInt.toNat (W - 1), by omega⟩) := by
  have hsi : ∀ h, (colDims B C O K W P Q wf).siIdx (ix6 b c o k p q) ⟨List.idxOf (4 : Fin 5) [4], h⟩ = ix3 p q (0 : Fin 1) := by
    intro h; funext e; refine Fin.ext ?_
    match e with
    | ⟨0, _⟩ => rfl
    | ⟨1, _⟩ => rfl
    | ⟨2, _⟩ => rfl
  unfold Host.gather
  congr 1
  funext a
  refine Fin.ext ?_
  show (colDims B C O K W P Q wf).start (ix6 b c o k p q) idx a + (colDims B C O K W P Q wf).batchCoord (ix6 b c o k p q) a
    + (colDims B C O K W P Q wf).offCoord (ix6 b c o k p q) a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, _⟩ => exact Nat.zero_add _
  | ⟨4, _⟩ =>
    rw [GatherDims.offCoord_eq_zero _ _ _ (fun h => ((GatherDims.mem_sKept _ _).mp h).1 (List.mem_singleton.mpr rfl))]
    rw [Nat.add_zero]
    refine Eq.trans (dif_pos (show (4 : Fin 5) ∈ [(4 : Fin 5)] by decide)) ?_
    exact congrArg (fun z => min (idx z).toInt.toNat (W - 1)) (hsi _)

/-- The dimension numbers of a gather of codes: a table of pairs picks axes 0 and 1 of three. -/
abbrev codeDims (C K D B R : ℕ)
    (wf : GatherDims.WF ⟨3, ![C, K, D]⟩ ⟨3, ![B, R, 2]⟩ ⟨3, ![B, R, D]⟩ [2] [0, 1] [] [0, 1] [] 2 ![1, 1, D]) :
    GatherDims ⟨3, ![C, K, D]⟩ ⟨3, ![B, R, 2]⟩ ⟨3, ![B, R, D]⟩ where
  offsetDims := [2]
  collapsedSliceDims := [0, 1]
  operandBatchingDims := []
  startIndicesBatchingDims := []
  startIndexMap := [0, 1]
  indexVectorDim := 2
  sliceSizes := ![1, 1, D]
  wf := wf

/-- A gather of codes at an index: the code the pair names, each number clamped to its last value. -/
theorem gather_codes_apply {C K D B R w : ℕ} (hC : 0 < C) (hK : 0 < K) (wf) (x : (⟨3, ![C, K, D]⟩ : Shape).Idx → α)
    (idx : IVec ⟨3, ![B, R, 2]⟩ w) (b : Fin B) (r : Fin R) (d : Fin D) :
    Host.gather (codeDims C K D B R wf) x idx (ix3 b r d)
      = x (ix3 ⟨min (idx (ix3 b r (0 : Fin 2))).toInt.toNat (C - 1), by omega⟩
          ⟨min (idx (ix3 b r (1 : Fin 2))).toInt.toNat (K - 1), by omega⟩ d) := by
  have hsi : ∀ (g : Fin 2) (i : ℕ) (hi : i = g.val) h, (codeDims C K D B R wf).siIdx (ix3 b r d) ⟨i, h⟩ = ix3 b r g := by
    intro g i hi h; subst hi; funext e; refine Fin.ext ?_
    match e with
    | ⟨0, _⟩ => rfl
    | ⟨1, _⟩ => rfl
    | ⟨2, _⟩ => rfl
  unfold Host.gather
  congr 1
  funext a
  refine Fin.ext ?_
  show (codeDims C K D B R wf).start (ix3 b r d) idx a + (codeDims C K D B R wf).batchCoord (ix3 b r d) a
    + (codeDims C K D B R wf).offCoord (ix3 b r d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (by decide : (0 : Fin 3) ∈ [(0 : Fin 3), 1]))]
    rw [Nat.add_zero]
    refine Eq.trans (dif_pos (show (0 : Fin 3) ∈ [(0 : Fin 3), 1] by decide)) ?_
    exact congrArg (fun z => min (idx z).toInt.toNat (C - 1)) (hsi 0 _ rfl _)
  | ⟨1, _⟩ =>
    rw [GatherDims.offCoord_eq_zero _ _ _ (fun h => ((GatherDims.mem_sKept _ _).mp h).1 (by decide : (1 : Fin 3) ∈ [(0 : Fin 3), 1]))]
    rw [Nat.add_zero]
    refine Eq.trans (dif_pos (show (1 : Fin 3) ∈ [(0 : Fin 3), 1] by decide)) ?_
    exact congrArg (fun z => min (idx z).toInt.toNat (K - 1)) (hsi 1 _ rfl _)
  | ⟨2, _⟩ => exact Nat.zero_add _

end Cert.ReferenceIdeal.Val

end
-- ==== Proof.RefDot.lean ====
/- A reference's convolution product, which contracts three axes at once, read at an index. -/
module

public import Idealize.ShloMosaic.Lib.Pointwise

@[expose] public section

set_option maxRecDepth 16384

noncomputable section

namespace Cert.ReferenceIdeal.Val

open Idealize.ShloMosaic Idealize.ShloMosaic.Tactic

variable {sl sr so : Shape} (d : DotDims sl sr so) {p q r : Fin sl.rank} (hc : d.lhsContracting = [p, q, r])
include hc

/-- Three contracted axes give the contraction rank three. -/
theorem rank_three : d.contr.rank = 3 := by
  rw [d.rank_contr, hc]; rfl

/-- The contraction's sizes are those of the three contracted axes. -/
theorem size_three (m : Fin d.contr.rank) :
    (if m.val = 0 then sl.size p else if m.val = 1 then sl.size q else sl.size r) = d.contr.size m := by
  have : ∀ (l : List (Fin sl.rank)) (_ : l = [p, q, r]) (m : Fin (l.map sl.size).length),
      (if m.val = 0 then sl.size p else if m.val = 1 then sl.size q else sl.size r) = (l.map sl.size)[m] := by
    rintro _ rfl ⟨m, hm⟩
    have : m = 0 ∨ m = 1 ∨ m = 2 := by simp at hm; omega
    rcases this with rfl | rfl | rfl <;> rfl
  exact this _ hc m

/-- The contraction index with the three given coordinates. -/
def three (k : Fin (sl.size p) × Fin (sl.size q) × Fin (sl.size r)) : d.contr.Idx := fun m =>
  if h : m.val = 0 then k.1.cast (by rw [← size_three d hc m, if_pos h])
  else if h' : m.val = 1 then k.2.1.cast (by rw [← size_three d hc m, if_neg h, if_pos h'])
  else k.2.2.cast (by rw [← size_three d hc m, if_neg h, if_neg h'])

/-- Contraction indices are the triples of coordinates. -/
def threeEquiv : Fin (sl.size p) × Fin (sl.size q) × Fin (sl.size r) ≃ d.contr.Idx where
  toFun := three d hc
  invFun kk :=
    ((kk ⟨0, by rw [rank_three d hc]; decide⟩).cast (size_three d hc _).symm,
     (kk ⟨1, by rw [rank_three d hc]; decide⟩).cast (size_three d hc _).symm,
     (kk ⟨2, by rw [rank_three d hc]; decide⟩).cast (size_three d hc _).symm)
  left_inv _ := rfl
  right_inv kk := by
    funext m
    have : m = ⟨0, by rw [rank_three d hc]; decide⟩ ∨ m = ⟨1, by rw [rank_three d hc]; decide⟩
        ∨ m = ⟨2, by rw [rank_three d hc]; decide⟩ := by
      have := rank_three d hc
      rcases m with ⟨m, hm⟩
      simp only [Fin.mk.injEq]; omega
    rcases this with rfl | rfl | rfl <;> rfl

/-- A sum over the contraction is the triple sum over the coordinates. -/
theorem sum_three {M : Type*} [AddCommMonoid M] (f : d.contr.Idx → M) :
    ∑ kk : d.contr.Idx, f kk = ∑ a : Fin (sl.size p), ∑ b : Fin (sl.size q), ∑ c : Fin (sl.size r), f (three d hc (a, b, c)) := by
  rw [← Fintype.sum_equiv (threeEquiv d hc) (fun k => f (three d hc k)) f fun _ => rfl]
  simp only [Fintype.sum_prod_type]

omit hc

/-- The dimension numbers of a convolution written as one product: channels, rows and columns of the window contracted. -/
abbrev convDims (B C O H W : ℕ)
    (wf : DotDims.WF ⟨4, ![O, C, 5, 5]⟩ ⟨6, ![B, C, H, 5, W, 5]⟩ ⟨4, ![O, B, H, W]⟩ [1, 2, 3] [1, 3, 5] [0] [0, 2, 4] [] []) :
    DotDims ⟨4, ![O, C, 5, 5]⟩ ⟨6, ![B, C, H, 5, W, 5]⟩ ⟨4, ![O, B, H, W]⟩ where
  lhsContracting := [1, 2, 3]
  rhsContracting := [1, 3, 5]
  lhsNonContracting := [0]
  rhsNonContracting := [0, 2, 4]
  lhsBatch := []
  rhsBatch := []
  wf := wf

/-- The convolution product at an index: the triple sum over channel, window row and window column. -/
theorem conv_dot_apply {B C O H W : ℕ} (wf) (prec : Option ContractPrecision)
    (l : FVec Ideal ⟨4, ![O, C, 5, 5]⟩ .f32) (x : FVec Ideal ⟨6, ![B, C, H, 5, W, 5]⟩ .f32)
    (o : Fin O) (b : Fin B) (i : Fin H) (j : Fin W) :
    (Host.dotGeneral (convDims B C O H W wf) prec l x (ix4 o b i j) : EReal)
      = ∑ c : Fin C, ∑ u : Fin 5, ∑ v : Fin 5, l (ix4 o c u v) * x (ix6 b c i u j v) := by
  simp only [Host.dotGeneral]
  refine (Ideal.dotGeneral_apply (convDims B C O H W wf) prec _ l x (ix4 o b i j)).trans ?_
  refine (sum_three (convDims B C O H W wf) (p := 1) (q := 2) (r := 3) rfl _).trans ?_
  refine Finset.sum_congr rfl fun c _ => Finset.sum_congr rfl fun u _ => Finset.sum_congr rfl fun v _ => ?_
  refine congrArg₂ (· * ·) (congrArg l ?_) (congrArg x ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl

end Cert.ReferenceIdeal.Val

end
-- ==== Proof.RefTap.lean ====
/- A reference's padded image, cut into windows by two gathers and contracted with the weights, read at an index. -/
module

public import proofs.«01_k».proof.Proof.Gen.ReferenceIdeal
public import proofs.«01_k».proof.Proof.RefGather
public import proofs.«01_k».proof.Proof.RefDot
public import proofs.«01_k».proof.Proof.Spec

@[expose] public section

set_option maxRecDepth 16384

noncomputable section

namespace Cert.ReferenceIdeal.Val

open Idealize.ShloMosaic Idealize.ShloMosaic.Tactic
open Cert.ReferenceIdeal Cert.ReferenceIdeal.Gen Cert.Spec

/-- An image padded by two zeros on each side, at a padded position. -/
theorem pad_two_apply {B C H W P Q : ℕ} (hP : P = H + 4) (hQ : Q = W + 4) (x : FVec Ideal ⟨4, ![B, C, H, W]⟩ .f32)
    {u : Shape} (v : FVec Ideal u .f32) (h : (⟨4, ![B, C, H, W]⟩ : Shape).Pads ![0, 0, 2, 2] ![0, 0, 2, 2] ![0, 0, 0, 0] ⟨4, ![B, C, P, Q]⟩)
    (hu : 0 < u.numel) (hv : (v (Shape.Idx.first hu) : EReal) = 0) (b : Fin B) (c : Fin C) (p : Fin P) (q : Fin Q) :
    (pad ⟨4, ![B, C, P, Q]⟩ ![0, 0, 2, 2] ![0, 0, 2, 2] ![0, 0, 0, 0] x v h hu (ix4 b c p q) : EReal)
      = padded (fun i j => x (ix4 b c i j)) p q := by
  unfold padded
  split
  · rename_i hin
    refine pad_apply_of_inside _ _ _ x v h hu _ (ix4 b c ⟨p.val - 2, by omega⟩ ⟨q.val - 2, by omega⟩) fun a => ?_
    match a with
    | ⟨0, _⟩ => show b.val = 0 + b.val * 1; omega
    | ⟨1, _⟩ => show c.val = 0 + c.val * 1; omega
    | ⟨2, _⟩ => show p.val = 2 + (p.val - 2) * 1; omega
    | ⟨3, _⟩ => show q.val = 2 + (q.val - 2) * 1; omega
  · rename_i hout
    rw [← hv]
    by_cases hp : 2 ≤ p.val ∧ p.val < H + 2
    · refine pad_apply_of_not_inside _ _ _ x v h hu _ (3 : Fin 4) ?_
      show ¬(2 ≤ q.val ∧ (q.val - 2) % 1 = 0 ∧ (q.val - 2) / 1 < W)
      rw [Nat.div_one, Nat.mod_one]
      intro hq
      exact hout ⟨hp, hq.1, by omega⟩
    · refine pad_apply_of_not_inside _ _ _ x v h hu _ (2 : Fin 4) ?_
      show ¬(2 ≤ p.val ∧ (p.val - 2) % 1 = 0 ∧ (p.val - 2) / 1 < H)
      rw [Nat.div_one, Nat.mod_one]
      intro hq
      exact hp ⟨hq.1, by omega⟩

/-- The product of the weights with the windows of a padded image: the triple sum over channel, window row and column. -/
theorem conv_sum_apply {B C O H W P Q w : ℕ} (hP : P = H + 4) (hQ : Q = W + 4) (x : FVec Ideal ⟨4, ![B, C, H, W]⟩ .f32)
    {u : Shape} (z : FVec Ideal u .f32) (h) (hu : 0 < u.numel) (hz : (z (Shape.Idx.first hu) : EReal) = 0)
    (rows : IVec ⟨3, ![H, 5, 1]⟩ w) (cols : IVec ⟨3, ![W, 5, 1]⟩ w)
    (hr : ∀ (i : Fin H) (s : Fin 5), (rows (ix3 i s (0 : Fin 1))).toInt.toNat = i.val + s.val)
    (hc : ∀ (i : Fin W) (s : Fin 5), (cols (ix3 i s (0 : Fin 1))).toInt.toNat = i.val + s.val)
    (wf) (wf') (wf'') (prec : Option ContractPrecision) (f : FVec Ideal ⟨4, ![O, C, 5, 5]⟩ .f32)
    (o : Fin O) (b : Fin B) (i : Fin H) (j : Fin W) :
    (Host.dotGeneral (convDims B C O H W wf) prec f
      (Host.gather (colDims B C H 5 Q W 5 wf') (Host.gather (rowDims B C P Q H 5 wf'')
        (pad ⟨4, ![B, C, P, Q]⟩ ![0, 0, 2, 2] ![0, 0, 2, 2] ![0, 0, 0, 0] x z h hu) rows) cols) (ix4 o b i j) : EReal)
      = ∑ c : Fin C, ∑ s : Fin 5, ∑ t : Fin 5,
          padded (fun i j => x (ix4 b c i j)) (i.val + s.val) (j.val + t.val) * f (ix4 o c s t) := by
  refine (conv_dot_apply wf prec f _ o b i j).trans ?_
  refine Finset.sum_congr rfl fun c _ => Finset.sum_congr rfl fun s _ => Finset.sum_congr rfl fun t _ => ?_
  have hi := i.isLt
  have hj := j.isLt
  have hs := s.isLt
  have ht := t.isLt
  rw [mul_comm]
  refine congrArg (· * _) ?_
  refine (gather_cols_apply (by omega) wf' _ cols b c i s j t).trans ?_
  refine (gather_rows_apply (by omega) wf'' _ rows b c i s _).trans ?_
  refine (pad_two_apply hP hQ x z h hu hz b c _ _).trans ?_
  show padded _ (min (rows (ix3 i s (0 : Fin 1))).toInt.toNat (P - 1)) (min (cols (ix3 j t (0 : Fin 1))).toInt.toNat (Q - 1)) = _
  rw [hr, hc, Nat.min_eq_left (by omega), Nat.min_eq_left (by omega)]

/-- The integer zero a padding value is converted from is the float zero. -/
theorem pad_value (u : Shape) (i : u.Idx) : (sitofp .f32 (constantI u 32 0#32) i : Ideal .f32) = (0 : EReal) := by
  show (((0#32 : BitVec 32).toInt : ℝ) : EReal) = 0
  rw [show (0#32 : BitVec 32).toInt = 0 from by decide]
  simp

end Cert.ReferenceIdeal.Val

end
-- ==== Proof.RefConv.lean ====
/- What the arrays of the reference's convolution stretches hold. -/
module

public import proofs.«01_k».proof.Proof.RunR
public import proofs.«01_k».proof.Proof.RefTap

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Spec

/-- The table of window rows for 28 places, as the program makes it. -/
def table28 : IVec S28x5x1 32 :=
  let r := addi (broadcastInDim S28x5 ![0, 1] bcast_S28x1_S28x5_0_1 (broadcastInDim S28x1 ![0] bcast_S28_S28x1_0 (iotaInDim S28 32 0)))
    (broadcastInDim S28x5 ![0, 1] bcast_S1x5_S28x5_0_1 (broadcastInDim S1x5 ![1] bcast_S5_S1x5_1 (iotaInDim S5 32 0)))
  broadcastInDim S28x5x1 ![0, 1] bcast_S28x5_S28x5x1_0_1
    (select (cmpi .slt r (broadcastInDim S28x5 ![] bcast_S_S28x5 (constantI S_ 32 0#32)))
      (addi r (broadcastInDim S28x5 ![] bcast_S_S28x5 (constantI S_ 32 32#32))) r)

/-- The table of window rows for 14 places, as the program makes it. -/
def table14 : IVec S14x5x1 32 :=
  let r := addi (broadcastInDim S14x5 ![0, 1] bcast_S14x1_S14x5_0_1 (broadcastInDim S14x1 ![0] bcast_S14_S14x1_0 (iotaInDim S14 32 0)))
    (broadcastInDim S14x5 ![0, 1] bcast_S1x5_S14x5_0_1 (broadcastInDim S1x5 ![1] bcast_S5_S1x5_1 (iotaInDim S5 32 0)))
  broadcastInDim S14x5x1 ![0, 1] bcast_S14x5_S14x5x1_0_1
    (select (cmpi .slt r (broadcastInDim S14x5 ![] bcast_S_S14x5 (constantI S_ 32 0#32)))
      (addi r (broadcastInDim S14x5 ![] bcast_S_S14x5 (constantI S_ 32 18#32))) r)

/-- Row `s` of the window of place `i` is row `i + s` of the padded image (28 places). -/
theorem table28_apply : ∀ (i : Fin 28) (s : Fin 5), (table28 (ix3 i s (0 : Fin 1))).toInt.toNat = i.val + s.val := by
  decide +kernel

/-- Row `s` of the window of place `i` is row `i + s` of the padded image (14 places). -/
theorem table14_apply : ∀ (i : Fin 14) (s : Fin 5), (table14 (ix3 i s (0 : Fin 1))).toInt.toNat = i.val + s.val := by
  decide +kernel

/-- The end of the first convolution stretch at an index: the product's channel moved back, its offset, the cut at zero. -/
theorem tail1_apply (D : FVec Ideal S32x128x28x28 .f32) (β : FVec Ideal S32 .f32) (b : Fin 128) (o : Fin 32) (i j : Fin 28) :
    (maximumf (addf (transpose S128x32x28x28 [1, 0, 2, 3] D transposes_S32x128x28x28_S128x32x28x28_1_0_2_3)
      (broadcastInDim S128x32x28x28 ![0, 1, 2, 3] bcast_S1x32x1x1_S128x32x28x28_0_1_2_3
        (broadcastInDim S1x32x1x1 ![1] bcast_S32_S1x32x1x1_1 β)))
      (broadcastInDim S128x32x28x28 ![] bcast_S_S128x32x28x28 (constant S_ .f32 0x00000000#32)) (ix4 b o i j) : EReal)
      = max ((D (ix4 o b i j) : EReal) + β (ix1 o)) 0 := by
  pointwise

/-- The end of the second convolution stretch at an index: the product's channel moved back, its offset, the cut at zero. -/
theorem tail2_apply (D : FVec Ideal S32x128x14x14 .f32) (β : FVec Ideal S32 .f32) (b : Fin 128) (o : Fin 32) (i j : Fin 14) :
    (maximumf (addf (transpose S128x32x14x14 [1, 0, 2, 3] D transposes_S32x128x14x14_S128x32x14x14_1_0_2_3)
      (broadcastInDim S128x32x14x14 ![0, 1, 2, 3] bcast_S1x32x1x1_S128x32x14x14_0_1_2_3
        (broadcastInDim S1x32x1x1 ![1] bcast_S32_S1x32x1x1_1 β)))
      (broadcastInDim S128x32x14x14 ![] bcast_S_S128x32x14x14 (constant S_ .f32 0x00000000#32)) (ix4 b o i j) : EReal)
      = max ((D (ix4 o b i j) : EReal) + β (ix1 o)) 0 := by
  pointwise

/-- The end of the third convolution stretch at an index: the product's channel moved back, its offset, the cut at zero. -/
theorem tail3_apply (D : FVec Ideal S64x128x14x14 .f32) (β : FVec Ideal S64 .f32) (b : Fin 128) (o : Fin 64) (i j : Fin 14) :
    (maximumf (addf (transpose S128x64x14x14 [1, 0, 2, 3] D transposes_S64x128x14x14_S128x64x14x14_1_0_2_3)
      (broadcastInDim S128x64x14x14 ![0, 1, 2, 3] bcast_S1x64x1x1_S128x64x14x14_0_1_2_3
        (broadcastInDim S1x64x1x1 ![1] bcast_S64_S1x64x1x1_1 β)))
      (broadcastInDim S128x64x14x14 ![] bcast_S_S128x64x14x14 (constant S_ .f32 0x00000000#32)) (ix4 b o i j) : EReal)
      = max ((D (ix4 o b i j) : EReal) + β (ix1 o)) 0 := by
  pointwise

variable (V : Valuation τ sig (Elt Ideal))

/-- After the first convolution stretch the array holds the first convolution, cut off at zero. -/
theorem conv1_stage (b : Fin 128) (o : Fin 32) (i j : Fin 28) :
    ((StableHlo.after (stage 0 43) V) (Proc.devRef .tc main_v34) : FVec Ideal S128x32x28x28 .f32) (ix4 b o i j)
      = convRelu (fun c i j => (V (Proc.devRef .tc main_arg0) : FVec Ideal S128x1x28x28 .f32) (ix4 b c i j))
          (fun c u v => (V (Proc.devRef .tc main_arg1) : FVec Ideal S32x1x5x5 .f32) (ix4 o c u v))
          ((V (Proc.devRef .tc main_arg2) : FVec Ideal S32 .f32) (ix1 o)) i j := by
  simp only [stage, ops, ops0, ops1, ops2, ops3, List.cons_append, List.nil_append, List.drop, List.take, Nat.sub_zero,
    Nat.reduceSub]
  after_reads_simp
  simp only [StableHlo.TRef.toBuf, StableHlo.TRef.ofBuf, cast_cast, cast_eq]
  refine (tail1_apply _ _ b o i j).trans (congrArg (fun z : EReal => max (z + _) 0) ?_)
  exact conv_sum_apply (P := 32) (Q := 32) rfl rfl (V (Proc.devRef .tc main_arg0)) (sitofp .f32 (constantI S_ 32 0#32))
    pads_S128x1x28x28_S128x1x32x32_000_000_220_220 h_S_ (pad_value _ _) table28 table28 table28_apply table28_apply
    dot_S32x1x5x5_S128x1x28x5x28x5_S32x128x28x28_123_135_0_024_n_n_wf
    gather_S128x1x28x5x32_S28x5x1_S128x1x28x5x28x5_0123_4_n_n_4_2_12812851_wf
    gather_S128x1x32x32_S28x5x1_S128x1x28x5x32_014_2_n_n_2_2_1281132_wf none (V (Proc.devRef .tc main_arg1)) o b i j

/-- After the second convolution stretch the array holds the second convolution, cut off at zero. -/
theorem conv2_stage (b : Fin 128) (o : Fin 32) (i j : Fin 14) :
    ((StableHlo.after (stage 91 134) V) (Proc.devRef .tc main_v105) : FVec Ideal S128x32x14x14 .f32) (ix4 b o i j)
      = convRelu (fun c i j => (V (Proc.devRef .tc main_v70) : FVec Ideal S128x32x14x14 .f32) (ix4 b c i j))
          (fun c u v => (V (Proc.devRef .tc main_arg3) : FVec Ideal S32x32x5x5 .f32) (ix4 o c u v))
          ((V (Proc.devRef .tc main_arg4) : FVec Ideal S32 .f32) (ix1 o)) i j := by
  simp only [stage, ops, ops0, ops1, ops2, ops3, List.cons_append, List.nil_append, List.drop, List.take, Nat.sub_zero,
    Nat.reduceSub]
  after_reads_simp
  simp only [StableHlo.TRef.toBuf, StableHlo.TRef.ofBuf, cast_cast, cast_eq]
  refine (tail2_apply _ _ b o i j).trans (congrArg (fun z : EReal => max (z + _) 0) ?_)
  exact conv_sum_apply (P := 18) (Q := 18) rfl rfl (V (Proc.devRef .tc main_v70)) (sitofp .f32 (constantI S_ 32 0#32))
    pads_S128x32x14x14_S128x32x18x18_000_000_220_220 h_S_ (pad_value _ _) table14 table14 table14_apply table14_apply
    dot_S32x32x5x5_S128x32x14x5x14x5_S32x128x14x14_123_135_0_024_n_n_wf
    gather_S128x32x14x5x18_S14x5x1_S128x32x14x5x14x5_0123_4_n_n_4_2_128321451_wf
    gather_S128x32x18x18_S14x5x1_S128x32x14x5x18_014_2_n_n_2_2_12832118_wf none (V (Proc.devRef .tc main_arg3)) o b i j

/-- After the third convolution stretch the array holds the third convolution, cut off at zero. -/
theorem conv3_stage (b : Fin 128) (o : Fin 64) (i j : Fin 14) :
    ((StableHlo.after (stage 179 222) V) (Proc.devRef .tc main_v174) : FVec Ideal S128x64x14x14 .f32) (ix4 b o i j)
      = convRelu (fun c i j => (V (Proc.devRef .tc main_v139) : FVec Ideal S128x32x14x14 .f32) (ix4 b c i j))
          (fun c u v => (V (Proc.devRef .tc main_arg5) : FVec Ideal S64x32x5x5 .f32) (ix4 o c u v))
          ((V (Proc.devRef .tc main_arg6) : FVec Ideal S64 .f32) (ix1 o)) i j := by
  simp only [stage, ops, ops0, ops1, ops2, ops3, List.cons_append, List.nil_append, List.drop, List.take, Nat.sub_zero,
    Nat.reduceSub]
  after_reads_simp
  simp only [StableHlo.TRef.toBuf, StableHlo.TRef.ofBuf, cast_cast, cast_eq]
  refine (tail3_apply _ _ b o i j).trans (congrArg (fun z : EReal => max (z + _) 0) ?_)
  exact conv_sum_apply (P := 18) (Q := 18) rfl rfl (V (Proc.devRef .tc main_v139)) (sitofp .f32 (constantI S_ 32 0#32))
    pads_S128x32x14x14_S128x32x18x18_000_000_220_220 h_S_ (pad_value _ _) table14 table14 table14_apply table14_apply
    dot_S64x32x5x5_S128x32x14x5x14x5_S64x128x14x14_123_135_0_024_n_n_wf
    gather_S128x32x14x5x18_S14x5x1_S128x32x14x5x14x5_0123_4_n_n_4_2_128321451_wf
    gather_S128x32x18x18_S14x5x1_S128x32x14x5x18_014_2_n_n_2_2_12832118_wf none (V (Proc.devRef .tc main_arg5)) o b i j

end Cert.ReferenceIdeal.Val

end
-- ==== Proof.RefArgmin.lean ====
/- A reference's arg-min over the last axis, read at an index: the first position at which the values are least. -/
module

public import proofs.«01_k».proof.Proof.Gen.ReferenceIdeal
public import proofs.«01_k».proof.Proof.Spec
public import Idealize.ShloMosaic.Lib.Pointwise

@[expose] public section

set_option maxRecDepth 16384

noncomputable section

namespace Cert.ReferenceIdeal.Val

open Idealize.ShloMosaic Idealize.ShloMosaic.Tactic
open Cert.ReferenceIdeal Cert.ReferenceIdeal.Gen Cert.Spec

/-- One pair comes before another: its value is smaller, or the values agree and its position is. -/
def Before (p q : EReal × BitVec 32) : Prop := p.1 < q.1 ∨ p.1 = q.1 ∧ p.2.toInt ≤ q.2.toInt

/-- A pair comes before itself. -/
theorem Before.refl (p : EReal × BitVec 32) : Before p p := Or.inr ⟨rfl, le_rfl⟩

/-- Coming before is transitive. -/
theorem Before.trans {p q r : EReal × BitVec 32} (h : Before p q) (h' : Before q r) : Before p r := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The reducer keeps one of its two pairs, which comes before both. -/
theorem reducer_apply (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  obtain ⟨a, i⟩ := p
  obtain ⟨b, j⟩ := q
  have e : reducer_argmin_f32_i32 (F := Ideal) (a, i) (b, j)
      = if a < b ∨ a = b ∧ i.toInt < j.toInt then (a, i) else (b, j) := by
    by_cases h1 : a < b
    · simp [reducer_argmin_f32_i32, Ideal.cmpf_def, Ideal.cmp, IntOp.ori, IntOp.andi, IntOp.cmpi, Scalar.select, h1, h1.ne]
    · by_cases h2 : a = b
      · subst h2
        by_cases h3 : i.toInt < j.toInt
        · have h4 : i.slt j = true := by simpa [BitVec.slt] using h3
          simp [reducer_argmin_f32_i32, Ideal.cmpf_def, Ideal.cmp, IntOp.ori, IntOp.andi, IntOp.cmpi, Scalar.select, h3, h4]
        · have h4 : i.slt j = false := by simpa [BitVec.slt] using h3
          simp [reducer_argmin_f32_i32, Ideal.cmpf_def, Ideal.cmp, IntOp.ori, IntOp.andi, IntOp.cmpi, Scalar.select, h3, h4]
      · simp [reducer_argmin_f32_i32, Ideal.cmpf_def, Ideal.cmp, IntOp.ori, IntOp.andi, IntOp.cmpi, Scalar.select, h1, h2]
  rw [e]
  split
  · rename_i h
    refine ⟨Or.inl rfl, Before.refl _, ?_⟩
    rcases h with h | ⟨h, k⟩
    · exact Or.inl h
    · exact Or.inr ⟨h, k.le⟩
  · rename_i h
    refine ⟨Or.inr rfl, ?_, Before.refl _⟩
    rcases lt_trichotomy a b with hab | hab | hab
    · exact absurd (Or.inl hab) h
    · refine Or.inr ⟨hab.symm, ?_⟩
      by_contra hij
      exact h (Or.inr ⟨hab, not_le.mp hij⟩)
    · exact Or.inl hab

/-- The fold of the reducer over a list keeps the starting pair or one of the list, which comes before all of them. -/
theorem fold_reducer (l : List (EReal × BitVec 32)) (p : EReal × BitVec 32) :
    (l.foldl (reducer_argmin_f32_i32 (F := Ideal)) p = p ∨ l.foldl (reducer_argmin_f32_i32 (F := Ideal)) p ∈ l)
      ∧ Before (l.foldl (reducer_argmin_f32_i32 (F := Ideal)) p) p
      ∧ ∀ q ∈ l, Before (l.foldl (reducer_argmin_f32_i32 (F := Ideal)) p) q := by
  induction l generalizing p with
  | nil => exact ⟨Or.inl rfl, Before.refl _, fun _ h => absurd h List.not_mem_nil⟩
  | cons a l ih =>
    obtain ⟨hin, hp, hall⟩ := ih (reducer_argmin_f32_i32 (F := Ideal) p a)
    obtain ⟨hor, hbp, hba⟩ := reducer_apply p a
    rw [List.foldl_cons]
    refine ⟨?_, hp.trans hbp, fun q hq => ?_⟩
    · rcases hin with hin | hin
      · rw [hin]
        rcases hor with hor | hor
        · exact Or.inl hor
        · exact Or.inr (by rw [hor]; exact List.mem_cons_self)
      · exact Or.inr (List.mem_cons_of_mem _ hin)
    · rcases List.mem_cons.mp hq with rfl | hq
      · exact hp.trans hba
      · exact hall q hq

/-- The arg-min of a table's rows, started at plus infinity and position zero. -/
theorem argmin_apply {B C N : ℕ} [NeZero N] (hN : N < 2 ^ 31) (x : FVec Ideal ⟨3, ![B, C, N]⟩ .f32) (y : IVec ⟨3, ![B, C, N]⟩ 32)
    (hy : ∀ b c k, y (ix3 b c k) = BitVec.ofNat 32 k.val) {u : Shape} (ix : FVec Ideal u .f32) (iy : IVec u 32)
    (h : (⟨3, ![B, C, N]⟩ : Shape).ReducesTo [2] ⟨2, ![B, C]⟩) (hu : 0 < u.numel)
    (hix : (ix (Shape.Idx.first hu) : EReal) = ⊤) (hiy : iy (Shape.Idx.first hu) = 0#32) (b : Fin B) (c : Fin C) :
    Host.argReduce (F := Ideal) reducer_argmin_f32_i32 x y ix iy h hu (ix2 b c)
      = ((x (ix3 b c (nearest fun k => (x (ix3 b c k) : EReal))) : EReal),
          BitVec.ofNat 32 (nearest fun k => (x (ix3 b c k) : EReal)).val) := by
  have hint : ∀ k : Fin N, (BitVec.ofNat 32 k.val).toInt = k.val := fun k => by
    have := k.isLt
    rw [BitVec.toInt_ofNat', Int.bmod_def]
    omega
  have hdrop : ∀ b c k, h.drop (ix3 b c k) = ix2 b c := by
    intro b c k
    funext a
    match a with
    | ⟨0, _⟩ => rfl
    | ⟨1, _⟩ => rfl
  rw [Ideal.argReduce_eq_reduce2, Host.reduce2_eq_foldl_fiber, hix, hiy]
  have hmem : ∀ q, q ∈ Host.argReduceFiber x y h (ix2 b c) ↔ ∃ k : Fin N, q = (x (ix3 b c k), BitVec.ofNat 32 k.val) := by
    intro q
    unfold Host.argReduceFiber
    rw [List.mem_map]
    constructor
    · rintro ⟨n, hn, rfl⟩
      rw [List.mem_filter] at hn
      have hd := of_decide_eq_true hn.2
      obtain ⟨b', c', k', e⟩ : ∃ b' c' k', (⟨3, ![B, C, N]⟩ : Shape).rowMajor.symm n = ix3 b' c' k' :=
        ⟨_, _, _, eq_ix3 _⟩
      rw [e, hdrop] at hd
      have hb : b' = b := congrFun hd 0
      have hc : c' = c := congrFun hd 1
      subst hb hc
      exact ⟨k', by rw [e, hy]⟩
    · rintro ⟨k, rfl⟩
      refine ⟨(⟨3, ![B, C, N]⟩ : Shape).rowMajor (ix3 b c k), ?_, ?_⟩
      · rw [List.mem_filter]
        refine ⟨List.mem_finRange _, decide_eq_true ?_⟩
        rw [Equiv.symm_apply_apply, hdrop]
      · rw [Equiv.symm_apply_apply, hy]
  obtain ⟨hin, htop, hall⟩ := fold_reducer (Host.argReduceFiber x y h (ix2 b c)) ((⊤ : EReal), 0#32)
  set r := (Host.argReduceFiber x y h (ix2 b c)).foldl (reducer_argmin_f32_i32 (F := Ideal)) ((⊤ : EReal), 0#32) with hr
  have hbk : ∀ k : Fin N, Before r (x (ix3 b c k), BitVec.ofNat 32 k.val) := fun k => hall _ ((hmem _).mpr ⟨k, rfl⟩)
  have hrk : ∃ k : Fin N, r = ((x (ix3 b c k) : EReal), BitVec.ofNat 32 k.val) := by
    rcases hin with hin | hin
    · refine ⟨⟨0, Nat.pos_of_ne_zero (NeZero.ne N)⟩, ?_⟩
      rw [hin]
      refine Prod.ext ?_ rfl
      rcases hbk ⟨0, Nat.pos_of_ne_zero (NeZero.ne N)⟩ with hlt | ⟨heq, _⟩
      · rw [hin] at hlt
        exact absurd hlt not_top_lt
      · rw [hin] at heq
        exact heq
    · exact (hmem _).mp hin
  obtain ⟨k, hk⟩ := hrk
  show r = _
  rw [hk, nearest_eq (k := k)]
  refine ⟨fun j => ?_, fun j hj => ?_⟩
  · have := hbk j
    rw [hk] at this
    rcases this with this | ⟨this, _⟩
    · exact le_of_lt this
    · exact le_of_eq this
  · have := hbk j
    rw [hk] at this
    rcases this with this | ⟨_, this⟩
    · exact this
    · have h' : (k.val : ℤ) ≤ j.val := by rw [← hint, ← hint]; exact this
      have := Fin.lt_def.mp hj
      omega

end Cert.ReferenceIdeal.Val

end
-- ==== Proof.XnormReal.lean ====
/- A vector divided by its length has real entries, so adding it back to a difference from it gives the minuend. -/
module

public import proofs.«01_k».proof.Proof.Spec

@[expose] public section

noncomputable section

namespace Cert.Spec

open Idealize.ShloMosaic

/-- A square is not negative. -/
theorem sq_nonneg' (a : EReal) : 0 ≤ a * a := by
  rcases le_total 0 a with h | h
  · exact mul_nonneg h h
  · have h' : 0 ≤ -a := EReal.neg_nonneg.mpr h
    have := mul_nonneg h' h'
    rwa [neg_mul_neg] at this

/-- Only a real number has a square below plus infinity. -/
theorem real_of_sq {a : EReal} (h : a * a ≠ ⊤) : ∃ r : ℝ, a = r := by
  induction a with
  | bot => exact absurd EReal.bot_mul_bot h
  | top => exact absurd EReal.top_mul_top h
  | coe r => exact ⟨r, rfl⟩

/-- A root is plus infinity only of plus infinity. -/
theorem sqrt_top_iff {a : EReal} (h : Ideal.sqrt a ≠ ⊤) : a ≠ ⊤ := by
  rintro rfl
  exact h rfl

/-- The small constant a length is held above. -/
theorem eps_pos : (0 : EReal) < Ideal.ofBits .f32 0x2B8CBCCC#32 := by
  simp [Ideal.ofBits, Ideal.ieee, -EReal.coe_mul]

/-- A vector divided by its length has real entries. -/
theorem xnorm_real {D : ℕ} (x : Fin D → EReal) (d : Fin D) : ∃ r : ℝ, xnorm x d = r := by
  unfold xnorm
  have hpos : (0 : EReal) < max (Ideal.sqrt (∑ e, x e * x e)) (Ideal.ofBits .f32 0x2B8CBCCC#32) := lt_max_of_lt_right eps_pos
  unfold Ideal.div
  rw [if_neg hpos.ne']
  set m := max (Ideal.sqrt (∑ e, x e * x e)) (Ideal.ofBits .f32 0x2B8CBCCC#32) with hm
  by_cases ht : m = ⊤
  · exact ⟨0, by rw [ht, EReal.inv_top, mul_zero]; rfl⟩
  · have hs : (∑ e, x e * x e) ≠ ⊤ := sqrt_top_iff fun h => ht (top_le_iff.mp (h ▸ le_max_left _ _))
    have hx : x d * x d ≠ ⊤ := fun h => hs (top_le_iff.mp
      (h ▸ Finset.single_le_sum (f := fun e => x e * x e) (fun e _ => sq_nonneg' (x e)) (Finset.mem_univ d)))
    obtain ⟨r, hr⟩ := real_of_sq hx
    have hbot : m ≠ ⊥ := (lt_of_le_of_lt bot_le hpos).ne'
    lift m to ℝ using ⟨ht, hbot⟩ with m'
    exact ⟨r * m'⁻¹, by rw [hr, ← EReal.coe_inv, ← EReal.coe_mul]⟩

/-- Adding a real number to a difference from it gives the minuend back. -/
theorem add_sub_real {a : EReal} (h : ∃ r : ℝ, a = r) (q : EReal) : a + (q - a) = q := by
  obtain ⟨r, rfl⟩ := h
  induction q with
  | bot => simp
  | top => simp
  | coe q => rw [← EReal.coe_sub, ← EReal.coe_add]; congr 1; ring

end Cert.Spec

end
-- ==== Proof.RefKnn.lean ====
/- What the arrays of the reference's nearest-code stretches hold. -/
module

public import proofs.«01_k».proof.Proof.RunR
public import proofs.«01_k».proof.Proof.RefGather
public import proofs.«01_k».proof.Proof.RefArgmin
public import proofs.«01_k».proof.Proof.XnormReal

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Spec

/-- Plus infinity, as the arg-min starts from it. -/
theorem start_value : Ideal.ofBits .f32 0x7F800000#32 = ⊤ := by
  simp [Ideal.ofBits, Ideal.ieee]

/-- A small word is not negative, so wrapping a negative one leaves it. -/
theorem wrap_small (n : BitVec 32) (k : ℕ) (hk : k < 2 ^ 31) :
    (Scalar.select (IntOp.cmpi .slt (BitVec.ofNat 32 k) 0#32) (IntOp.addi (BitVec.ofNat 32 k) n) (BitVec.ofNat 32 k)).toInt.toNat = k := by
  have e : (BitVec.ofNat 32 k).toInt = k := by
    rw [BitVec.toInt_ofNat', Int.bmod_def]
    omega
  have h : IntOp.cmpi .slt (BitVec.ofNat 32 k) 0#32 = 0#1 := by
    unfold IntOp.cmpi
    have : ¬ (BitVec.ofNat 32 k).slt 0#32 = true := by
      simp only [BitVec.slt, decide_eq_true_eq, e]
      simp
    simp [this]
  rw [h]
  show (BitVec.ofNat 32 k).toInt.toNat = k
  rw [e]
  rfl

/-- Vectors divided by their lengths, as the program makes them (32 channels of 196 entries). -/
def xn_a (x : FVec Ideal S128x32x196 .f32) : FVec Ideal S128x32x196 .f32 :=
  Host.divf x (broadcastInDim S128x32x196 ![0, 1, 2] bcast_S128x32x1_S128x32x196_0_1_2
    (maximumf (Host.sqrt (broadcastInDim S128x32x1 ![0, 1] bcast_S128x32_S128x32x1_0_1
      (Host.reduceAdd (mulf x x) (constant S_ .f32 0x00000000#32) reducesTo_S128x32x196_S128x32_d2 h_S_)))
      (broadcastInDim S128x32x1 ![] bcast_S_S128x32x1 (constant S_ .f32 0x2B8CBCCC#32))))

/-- The vectors divided by their lengths, at an index (32 channels of 196 entries). -/
theorem xn_a_apply (x : FVec Ideal S128x32x196 .f32) (b : Fin 128) (c : Fin 32) (d : Fin 196) :
    (xn_a x (ix3 b c d) : EReal) = xnorm (fun e => x (ix3 b c e)) d := by
  pointwise [xn_a]
  rfl

/-- One minus the inner products with the codes, as the program makes them (32 channels of 196 entries). -/
def dist_a (cb : FVec Ideal S32x512x196 .f32) (y : FVec Ideal S128x32x196 .f32) : FVec Ideal S128x32x512 .f32 :=
  subf (broadcastInDim S128x32x512 ![] bcast_S_S128x32x512 (constant S_ .f32 0x3F800000#32))
    (transpose S128x32x512 [2, 0, 1] (Host.dotGeneral dot_S32x512x196_S128x32x196_S32x512x128_2_2_1_0_0_1 none cb y)
      transposes_S32x512x128_S128x32x512_2_0_1)

/-- One minus the inner products, at an index (32 channels of 196 entries). -/
theorem dist_a_apply (cb : FVec Ideal S32x512x196 .f32) (y : FVec Ideal S128x32x196 .f32) (b : Fin 128) (c : Fin 32) (k : Fin 512) :
    (dist_a cb y (ix3 b c k) : EReal) = dist (fun e => y (ix3 b c e)) (fun k e => cb (ix3 c k e)) k := by
  pointwise [dist_a]
  unfold Spec.dist
  refine congrArg (fun z : EReal => 1 - z) ?_
  exact Finset.sum_congr rfl fun e _ => mul_comm _ _

/-- The first position at which each row of a table is least, as the program finds it (32 channels of 196 entries). -/
def amin_a (x : FVec Ideal S128x32x512 .f32) : IVec S128x32 32 := fun j =>
  (Host.argReduce reducer_argmin_f32_i32 x (iotaInDim S128x32x512 32 2) (constant S_ .f32 0x7F800000#32) (constantI S_ 32 0#32)
    reducesTo_S128x32x512_S128x32_d2 h_S_ j).2

/-- The program's search as a function of the place it is read at. -/
theorem amin_a_def (x : FVec Ideal S128x32x512 .f32) : amin_a x = fun j =>
  (Host.argReduce reducer_argmin_f32_i32 x (iotaInDim S128x32x512 32 2) (constant S_ .f32 0x7F800000#32) (constantI S_ 32 0#32)
    reducesTo_S128x32x512_S128x32_d2 h_S_ j).2 := rfl

/-- The first position of the least entry, at an index (32 channels of 196 entries). -/
theorem amin_a_apply (x : FVec Ideal S128x32x512 .f32) (b : Fin 128) (c : Fin 32) :
    amin_a x (ix2 b c) = BitVec.ofNat 32 (nearest fun k => (x (ix3 b c k) : EReal)).val := by
  rw [amin_a_def]
  refine congrArg Prod.snd (a₂ := ((x (ix3 b c (nearest fun k => (x (ix3 b c k) : EReal))) : Ideal .f32),
    BitVec.ofNat 32 (nearest fun k => (x (ix3 b c k) : EReal)).val)) ?_
  exact argmin_apply (by norm_num) x _ (fun _ _ _ => rfl) _ _ _ _ start_value rfl b c

/-- The table of pairs of a channel and a code number, as the program makes it (32 channels of 196 entries). -/
def pairs_a (a : IVec S128x32 32) : IVec S128x32x2 32 :=
  let r := broadcastInDim S1x32 ![1] bcast_S32_S1x32_1 (iotaInDim S32 32 0)
  concatenate S128x32x2 2 [⟨S128x32x1, broadcastInDim S128x32x1 ![0, 1] bcast_S128x32_S128x32x1_0_1
      (broadcastInDim S128x32 ![0, 1] bcast_S1x32_S128x32_0_1
        (select (cmpi .slt r (broadcastInDim S1x32 ![] bcast_S_S1x32 (constantI S_ 32 0#32)))
          (addi r (broadcastInDim S1x32 ![] bcast_S_S1x32 (constantI S_ 32 32#32))) r))⟩,
    ⟨S128x32x1, broadcastInDim S128x32x1 ![0, 1] bcast_S128x32_S128x32x1_0_1
      (select (cmpi .slt a (broadcastInDim S128x32 ![] bcast_S_S128x32 (constantI S_ 32 0#32)))
        (addi a (broadcastInDim S128x32 ![] bcast_S_S128x32 (constantI S_ 32 512#32))) a)⟩]
    concatenates_S128x32x1_S128x32x1_S128x32x2_d2

/-- The first number of a pair is the channel (32 channels of 196 entries). -/
theorem pairs_a_zero (a : IVec S128x32 32) (b : Fin 128) (c : Fin 32) :
    (pairs_a a (ix3 b c (0 : Fin 2))).toInt.toNat = c.val := by
  pointwise [pairs_a]
  exact wrap_small _ c.val (by omega)

/-- The second number of a pair is the code number (32 channels of 196 entries). -/
theorem pairs_a_one (a : IVec S128x32 32) (b : Fin 128) (c : Fin 32) (k : Fin 512) (h : a (ix2 b c) = BitVec.ofNat 32 k.val) :
    (pairs_a a (ix3 b c (1 : Fin 2))).toInt.toNat = k.val := by
  pointwise [pairs_a]
  rw [h]
  exact wrap_small _ k.val (by omega)

/-- The codes with the numbers `a`, the vectors added back to their differences from them, as the program makes them (32 channels of 196 entries). -/
def pick_a (cb : FVec Ideal S32x512x196 .f32) (y : FVec Ideal S128x32x196 .f32) (a : IVec S128x32 32) : FVec Ideal S128x32x196 .f32 :=
  addf y (subf (Host.gather gather_S32x512x196_S128x32x2_S128x32x196_2_01_n_n_01_2_11196 cb (pairs_a a)) y)

/-- The picked codes at an index (32 channels of 196 entries). -/
theorem pick_a_apply (cb : FVec Ideal S32x512x196 .f32) (y : FVec Ideal S128x32x196 .f32) (a : IVec S128x32 32)
    (b : Fin 128) (c : Fin 32) (d : Fin 196) (hy : ∃ r : ℝ, (y (ix3 b c d) : EReal) = r) (k : Fin 512) (h : a (ix2 b c) = BitVec.ofNat 32 k.val) :
    (pick_a cb y a (ix3 b c d) : EReal) = cb (ix3 c k d) := by
  unfold pick_a
  refine Eq.trans (add_sub_real hy _) ?_
  refine (gather_codes_apply (by decide) (by decide) gather_S32x512x196_S128x32x2_S128x32x196_2_01_n_n_01_2_11196_wf cb _ b c d).trans ?_
  refine congrArg cb ?_
  funext e
  match e with
  | ⟨0, _⟩ =>
    refine Fin.ext ?_
    show min _ (32 - 1) = c.val
    rw [pairs_a_zero]
    exact Nat.min_eq_left (Nat.le_sub_one_of_lt c.isLt)
  | ⟨1, _⟩ =>
    refine Fin.ext ?_
    show min _ (512 - 1) = k.val
    rw [pairs_a_one _ b c _ h]
    exact Nat.min_eq_left (Nat.le_sub_one_of_lt k.isLt)
  | ⟨2, _⟩ => rfl

/-- The nearest codes at an index (32 channels of 196 entries). -/
theorem near_a_apply (cb : FVec Ideal S32x512x196 .f32) (x : FVec Ideal S128x32x196 .f32) (b : Fin 128) (c : Fin 32) (d : Fin 196) :
    (pick_a cb (xn_a x) (amin_a (dist_a cb (xn_a x))) (ix3 b c d) : EReal)
      = knn (fun e => x (ix3 b c e)) (fun k e => cb (ix3 c k e)) d := by
  refine pick_a_apply cb (xn_a x) _ b c d (by rw [xn_a_apply]; exact xnorm_real _ _) _ ?_
  rw [amin_a_apply]
  simp only [dist_a_apply, xn_a_apply]

/-- Vectors divided by their lengths, as the program makes them (64 channels of 49 entries). -/
def xn_b (x : FVec Ideal S128x64x49 .f32) : FVec Ideal S128x64x49 .f32 :=
  Host.divf x (broadcastInDim S128x64x49 ![0, 1, 2] bcast_S128x64x1_S128x64x49_0_1_2
    (maximumf (Host.sqrt (broadcastInDim S128x64x1 ![0, 1] bcast_S128x64_S128x64x1_0_1
      (Host.reduceAdd (mulf x x) (constant S_ .f32 0x00000000#32) reducesTo_S128x64x49_S128x64_d2 h_S_)))
      (broadcastInDim S128x64x1 ![] bcast_S_S128x64x1 (constant S_ .f32 0x2B8CBCCC#32))))

/-- The vectors divided by their lengths, at an index (64 channels of 49 entries). -/
theorem xn_b_apply (x : FVec Ideal S128x64x49 .f32) (b : Fin 128) (c : Fin 64) (d : Fin 49) :
    (xn_b x (ix3 b c d) : EReal) = xnorm (fun e => x (ix3 b c e)) d := by
  pointwise [xn_b]
  rfl

/-- One minus the inner products with the codes, as the program makes them (64 channels of 49 entries). -/
def dist_b (cb : FVec Ideal S64x512x49 .f32) (y : FVec Ideal S128x64x49 .f32) : FVec Ideal S128x64x512 .f32 :=
  subf (broadcastInDim S128x64x512 ![] bcast_S_S128x64x512 (constant S_ .f32 0x3F800000#32))
    (transpose S128x64x512 [2, 0, 1] (Host.dotGeneral dot_S64x512x49_S128x64x49_S64x512x128_2_2_1_0_0_1 none cb y)
      transposes_S64x512x128_S128x64x512_2_0_1)

/-- One minus the inner products, at an index (64 channels of 49 entries). -/
theorem dist_b_apply (cb : FVec Ideal S64x512x49 .f32) (y : FVec Ideal S128x64x49 .f32) (b : Fin 128) (c : Fin 64) (k : Fin 512) :
    (dist_b cb y (ix3 b c k) : EReal) = dist (fun e => y (ix3 b c e)) (fun k e => cb (ix3 c k e)) k := by
  pointwise [dist_b]
  unfold Spec.dist
  refine congrArg (fun z : EReal => 1 - z) ?_
  exact Finset.sum_congr rfl fun e _ => mul_comm _ _

/-- The first position at which each row of a table is least, as the program finds it (64 channels of 49 entries). -/
def amin_b (x : FVec Ideal S128x64x512 .f32) : IVec S128x64 32 := fun j =>
  (Host.argReduce reducer_argmin_f32_i32 x (iotaInDim S128x64x512 32 2) (constant S_ .f32 0x7F800000#32) (constantI S_ 32 0#32)
    reducesTo_S128x64x512_S128x64_d2 h_S_ j).2

/-- The program's search as a function of the place it is read at. -/
theorem amin_b_def (x : FVec Ideal S128x64x512 .f32) : amin_b x = fun j =>
  (Host.argReduce reducer_argmin_f32_i32 x (iotaInDim S128x64x512 32 2) (constant S_ .f32 0x7F800000#32) (constantI S_ 32 0#32)
    reducesTo_S128x64x512_S128x64_d2 h_S_ j).2 := rfl

/-- The first position of the least entry, at an index (64 channels of 49 entries). -/
theorem amin_b_apply (x : FVec Ideal S128x64x512 .f32) (b : Fin 128) (c : Fin 64) :
    amin_b x (ix2 b c) = BitVec.ofNat 32 (nearest fun k => (x (ix3 b c k) : EReal)).val := by
  rw [amin_b_def]
  refine congrArg Prod.snd (a₂ := ((x (ix3 b c (nearest fun k => (x (ix3 b c k) : EReal))) : Ideal .f32),
    BitVec.ofNat 32 (nearest fun k => (x (ix3 b c k) : EReal)).val)) ?_
  exact argmin_apply (by norm_num) x _ (fun _ _ _ => rfl) _ _ _ _ start_value rfl b c

/-- The table of pairs of a channel and a code number, as the program makes it (64 channels of 49 entries). -/
def pairs_b (a : IVec S128x64 32) : IVec S128x64x2 32 :=
  let r := broadcastInDim S1x64 ![1] bcast_S64_S1x64_1 (iotaInDim S64 32 0)
  concatenate S128x64x2 2 [⟨S128x64x1, broadcastInDim S128x64x1 ![0, 1] bcast_S128x64_S128x64x1_0_1
      (broadcastInDim S128x64 ![0, 1] bcast_S1x64_S128x64_0_1
        (select (cmpi .slt r (broadcastInDim S1x64 ![] bcast_S_S1x64 (constantI S_ 32 0#32)))
          (addi r (broadcastInDim S1x64 ![] bcast_S_S1x64 (constantI S_ 32 64#32))) r))⟩,
    ⟨S128x64x1, broadcastInDim S128x64x1 ![0, 1] bcast_S128x64_S128x64x1_0_1
      (select (cmpi .slt a (broadcastInDim S128x64 ![] bcast_S_S128x64 (constantI S_ 32 0#32)))
        (addi a (broadcastInDim S128x64 ![] bcast_S_S128x64 (constantI S_ 32 512#32))) a)⟩]
    concatenates_S128x64x1_S128x64x1_S128x64x2_d2

/-- The first number of a pair is the channel (64 channels of 49 entries). -/
theorem pairs_b_zero (a : IVec S128x64 32) (b : Fin 128) (c : Fin 64) :
    (pairs_b a (ix3 b c (0 : Fin 2))).toInt.toNat = c.val := by
  pointwise [pairs_b]
  exact wrap_small _ c.val (by omega)

/-- The second number of a pair is the code number (64 channels of 49 entries). -/
theorem pairs_b_one (a : IVec S128x64 32) (b : Fin 128) (c : Fin 64) (k : Fin 512) (h : a (ix2 b c) = BitVec.ofNat 32 k.val) :
    (pairs_b a (ix3 b c (1 : Fin 2))).toInt.toNat = k.val := by
  pointwise [pairs_b]
  rw [h]
  exact wrap_small _ k.val (by omega)

/-- The codes with the numbers `a`, the vectors added back to their differences from them, as the program makes them (64 channels of 49 entries). -/
def pick_b (cb : FVec Ideal S64x512x49 .f32) (y : FVec Ideal S128x64x49 .f32) (a : IVec S128x64 32) : FVec Ideal S128x64x49 .f32 :=
  addf y (subf (Host.gather gather_S64x512x49_S128x64x2_S128x64x49_2_01_n_n_01_2_1149 cb (pairs_b a)) y)

/-- The picked codes at an index (64 channels of 49 entries). -/
theorem pick_b_apply (cb : FVec Ideal S64x512x49 .f32) (y : FVec Ideal S128x64x49 .f32) (a : IVec S128x64 32)
    (b : Fin 128) (c : Fin 64) (d : Fin 49) (hy : ∃ r : ℝ, (y (ix3 b c d) : EReal) = r) (k : Fin 512) (h : a (ix2 b c) = BitVec.ofNat 32 k.val) :
    (pick_b cb y a (ix3 b c d) : EReal) = cb (ix3 c k d) := by
  unfold pick_b
  refine Eq.trans (add_sub_real hy _) ?_
  refine (gather_codes_apply (by decide) (by decide) gather_S64x512x49_S128x64x2_S128x64x49_2_01_n_n_01_2_1149_wf cb _ b c d).trans ?_
  refine congrArg cb ?_
  funext e
  match e with
  | ⟨0, _⟩ =>
    refine Fin.ext ?_
    show min _ (64 - 1) = c.val
    rw [pairs_b_zero]
    exact Nat.min_eq_left (Nat.le_sub_one_of_lt c.isLt)
  | ⟨1, _⟩ =>
    refine Fin.ext ?_
    show min _ (512 - 1) = k.val
    rw [pairs_b_one _ b c _ h]
    exact Nat.min_eq_left (Nat.le_sub_one_of_lt k.isLt)
  | ⟨2, _⟩ => rfl

/-- The nearest codes at an index (64 channels of 49 entries). -/
theorem near_b_apply (cb : FVec Ideal S64x512x49 .f32) (x : FVec Ideal S128x64x49 .f32) (b : Fin 128) (c : Fin 64) (d : Fin 49) :
    (pick_b cb (xn_b x) (amin_b (dist_b cb (xn_b x))) (ix3 b c d) : EReal)
      = knn (fun e => x (ix3 b c e)) (fun k e => cb (ix3 c k e)) d := by
  refine pick_b_apply cb (xn_b x) _ b c d (by rw [xn_b_apply]; exact xnorm_real _ _) _ ?_
  rw [amin_b_apply]
  simp only [dist_b_apply, xn_b_apply]

end Cert.ReferenceIdeal.Val

end
-- ==== Proof.RefPool.lean ====
/- A reference's largest entry of each 2 by 2 window, read at an index. -/
module

public import proofs.«01_k».proof.Proof.RunR
public import proofs.«01_k».proof.Proof.Spec
public import Idealize.ShloMosaic.Lib.Pointwise

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Spec

/-- The places of a 2 by 2 window, in order. -/
theorem window_places : List.finRange (⟨4, ![1, 1, 2, 2]⟩ : Shape).numel
    = [⟨0, by decide⟩, ⟨1, by decide⟩, ⟨2, by decide⟩, ⟨3, by decide⟩] := by decide +kernel

/-- Row and column of each place of a 2 by 2 window. -/
theorem window_coords : ∀ n : Fin (⟨4, ![1, 1, 2, 2]⟩ : Shape).numel, ∀ a : Fin 4,
    ((⟨4, ![1, 1, 2, 2]⟩ : Shape).rowMajor.symm n a).val = (![0, 0, n.val / 2, n.val % 2] : Fin 4 → ℕ) a := by decide +kernel

/-- The window maximum at an index, from minus infinity. -/
theorem window_max_apply {B C H W P Q : ℕ} (hP : P = 2 * H) (hQ : Q = 2 * W) (x : FVec Ideal ⟨4, ![B, C, P, Q]⟩ .f32)
    {u : Shape} (z : FVec Ideal u .f32) (h) (hu : 0 < u.numel) (hz : (z (Shape.Idx.first hu) : EReal) = ⊥)
    (b : Fin B) (c : Fin C) (i : Fin H) (j : Fin W) (Y : ℕ → ℕ → EReal) (hY : ∀ p q, (x (ix4 b c p q) : EReal) = Y p.val q.val) :
    (Host.reduceWindow (t := ⟨4, ![B, C, H, W]⟩) (FloatOps.maximumf (F := Ideal) (φ := .f32)) ![1, 1, 2, 2] ![1, 1, 2, 2] ![0, 0, 0, 0]
      ![0, 0, 0, 0] x z h hu (ix4 b c i j) : EReal) = pool Y i.val j.val := by
  have hi := i.isLt
  have hj := j.isLt
  have hv : ∀ n : Fin (⟨4, ![1, 1, 2, 2]⟩ : Shape).numel, ∀ (p : Fin 4 → ℕ),
      (∀ a, p a = ((ix4 b c i j : (⟨4, ![B, C, H, W]⟩ : Shape).Idx) a).val * (![1, 1, 2, 2] : Fin 4 → ℕ) a
        + ((⟨4, ![1, 1, 2, 2]⟩ : Shape).rowMajor.symm n a).val) →
      (if hin : ∀ a : Fin 4, (![0, 0, 0, 0] : Fin 4 → ℕ) a ≤ p a ∧ p a - (![0, 0, 0, 0] : Fin 4 → ℕ) a < (![B, C, P, Q] : Fin 4 → ℕ) a then
        (x (fun a => ⟨p a - (![0, 0, 0, 0] : Fin 4 → ℕ) a, (hin a).2⟩) : EReal) else ⊥) = Y (2 * i.val + n.val / 2) (2 * j.val + n.val % 2) := by
    intro n p hp
    have hn : n.val < 4 := n.isLt
    have h0 : p 0 = b.val := (hp 0).trans (by rw [window_coords]; exact (Nat.mul_one _))
    have h1 : p 1 = c.val := (hp 1).trans (by rw [window_coords]; exact (Nat.mul_one _))
    have h2 : p 2 = 2 * i.val + n.val / 2 := (hp 2).trans (by rw [window_coords]; show i.val * 2 + n.val / 2 = _; omega)
    have h3 : p 3 = 2 * j.val + n.val % 2 := (hp 3).trans (by rw [window_coords]; show j.val * 2 + n.val % 2 = _; omega)
    rw [dif_pos]
    · rw [← h2, ← h3]
      refine Eq.trans (congrArg x ?_) (hY ⟨p 2, by omega⟩ ⟨p 3, by omega⟩)
      funext a
      match a with
      | ⟨0, _⟩ => exact Fin.ext h0
      | ⟨1, _⟩ => exact Fin.ext h1
      | ⟨2, _⟩ => exact Fin.ext rfl
      | ⟨3, _⟩ => exact Fin.ext rfl
    · intro a
      match a with
      | ⟨0, _⟩ => exact ⟨Nat.zero_le _, (by show p 0 - 0 < B; have := b.isLt; omega)⟩
      | ⟨1, _⟩ => exact ⟨Nat.zero_le _, (by show p 1 - 0 < C; have := c.isLt; omega)⟩
      | ⟨2, _⟩ => exact ⟨Nat.zero_le _, (by show p 2 - 0 < P; omega)⟩
      | ⟨3, _⟩ => exact ⟨Nat.zero_le _, (by show p 3 - 0 < Q; omega)⟩
  unfold Host.reduceWindow
  show (List.foldl _ _ (List.finRange (⟨4, ![1, 1, 2, 2]⟩ : Shape).numel)) = _
  rw [window_places, hz]
  simp only [List.foldl_cons, List.foldl_nil]
  refine Eq.trans (congrArg₂ max (congrArg₂ max (congrArg₂ max (congrArg₂ max rfl (hv ⟨0, by decide⟩ _ fun a => rfl))
    (hv ⟨1, by decide⟩ _ fun a => rfl)) (hv ⟨2, by decide⟩ _ fun a => rfl)) (hv ⟨3, by decide⟩ _ fun a => rfl)) ?_
  unfold Spec.pool
  rw [max_bot_left, max_assoc (max _ _)]
  rfl

end Cert.ReferenceIdeal.Val

end
-- ==== Proof.RefDense.lean ====
/- What the reference's two dense layers compute. -/
module

public import proofs.«01_k».proof.Proof.RefTap
public import proofs.«01_k».proof.Proof.Network

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Spec

/-- The first dense layer cut off at zero. -/
def hidden (x : FVec Ideal S128x3136 .f32) (w : FVec Ideal S1024x3136 .f32) (β : FVec Ideal S1024 .f32) : FVec Ideal S128x1024 .f32 :=
  maximumf (addf (Host.dotGeneral dot_S128x3136_S3136x1024_S128x1024_1_0_0_1_n_n none x
      (transpose S3136x1024 [1, 0] w transposes_S1024x3136_S3136x1024_1_0))
    (broadcastInDim S128x1024 ![0, 1] bcast_S1x1024_S128x1024_0_1 (broadcastInDim S1x1024 ![1] bcast_S1024_S1x1024_1 β)))
    (broadcastInDim S128x1024 ![] bcast_S_S128x1024 (constant S_ FTy.f32 0#32))

/-- The second dense layer. -/
def output (x : FVec Ideal S128x1024 .f32) (w : FVec Ideal S10x1024 .f32) (β : FVec Ideal S10 .f32) : FVec Ideal S128x10 .f32 :=
  addf (Host.dotGeneral dot_S128x1024_S1024x10_S128x10_1_0_0_1_n_n none x (transpose S1024x10 [1, 0] w transposes_S10x1024_S1024x10_1_0))
    (broadcastInDim S128x10 ![0, 1] bcast_S1x10_S128x10_0_1 (broadcastInDim S1x10 ![1] bcast_S10_S1x10_1 β))

/-- An entry of the first dense layer. -/
theorem hidden_apply (x : FVec Ideal S128x3136 .f32) (w : FVec Ideal S1024x3136 .f32) (β : FVec Ideal S1024 .f32) (b : Fin 128) (k : Fin 1024) :
    (hidden x w β (ix2 b k) : EReal) = max ((∑ f : Fin 3136, x (ix2 b f) * w (ix2 k f)) + β (ix1 k)) 0 := by
  pointwise [hidden]

/-- An entry of the second dense layer. -/
theorem output_apply (x : FVec Ideal S128x1024 .f32) (w : FVec Ideal S10x1024 .f32) (β : FVec Ideal S10 .f32) (b : Fin 128) (n : Fin 10) :
    (output x w β (ix2 b n) : EReal) = (∑ k : Fin 1024, x (ix2 b k) * w (ix2 n k)) + β (ix1 n) := by
  pointwise [output]

/-- An entry of the two dense layers. -/
theorem dense_apply (x : FVec Ideal S128x3136 .f32) (w : FVec Ideal S1024x3136 .f32) (β : FVec Ideal S1024 .f32)
    (w' : FVec Ideal S10x1024 .f32) (β' : FVec Ideal S10 .f32) (b : Fin 128) (n : Fin 10) :
    (output (hidden x w β) w' β' (ix2 b n) : EReal) = fc (fun f => x (ix2 b f)) (fun k f => w (ix2 k f)) (fun k => β (ix1 k))
      (fun o k => w' (ix2 o k)) (fun o => β' (ix1 o)) n := by
  rw [output_apply]
  unfold fc
  simp only [hidden_apply]

end Cert.ReferenceIdeal.Val

end
-- ==== Proof.RefStage.lean ====
/- What the arrays of the reference's nearest-code stretches and of its dense layers hold. -/
module

public import proofs.«01_k».proof.Proof.RefKnn
public import proofs.«01_k».proof.Proof.RefPool
public import proofs.«01_k».proof.Proof.RefDense

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Spec

variable (V : Valuation τ sig (Elt Ideal))

/-- Minus infinity, as the window maximum starts from it. -/
theorem bottom_value : Ideal.ofBits .f32 0xFF800000#32 = ⊥ := by
  simp [Ideal.ofBits, Ideal.ieee]

/-- The array after pooling stretch 1: the largest entry of each 2 by 2 window. -/
theorem pool1_stage (b : Fin 128) (c : Fin 32) (i j : Fin 14) (Y : ℕ → ℕ → EReal)
    (hY : ∀ p q, ((V (Proc.devRef .tc main_v34) : FVec Ideal S128x32x28x28 .f32) (ix4 b c p q) : EReal) = Y p.val q.val) :
    ((StableHlo.after (stage 43 46) V) (Proc.devRef .tc main_v36) : FVec Ideal S128x32x14x14 .f32) (ix4 b c i j) = Spec.pool Y i.val j.val := by
  simp only [stage, ops, ops0, ops1, ops2, ops3, ops4, List.cons_append, List.nil_append, List.drop, List.take, Nat.sub_zero,
    Nat.reduceSub]
  after_reads_simp
  exact window_max_apply (by decide) (by decide) (V (Proc.devRef .tc main_v34)) _ _ _ bottom_value b c i j Y hY

/-- The array after pooling stretch 3: the largest entry of each 2 by 2 window. -/
theorem pool3_stage (b : Fin 128) (c : Fin 64) (i j : Fin 7) (Y : ℕ → ℕ → EReal)
    (hY : ∀ p q, ((V (Proc.devRef .tc main_v174) : FVec Ideal S128x64x14x14 .f32) (ix4 b c p q) : EReal) = Y p.val q.val) :
    ((StableHlo.after (stage 222 225) V) (Proc.devRef .tc main_v176) : FVec Ideal S128x64x7x7 .f32) (ix4 b c i j) = Spec.pool Y i.val j.val := by
  simp only [stage, ops, ops0, ops1, ops2, ops3, ops4, List.cons_append, List.nil_append, List.drop, List.take, Nat.sub_zero,
    Nat.reduceSub]
  after_reads_simp
  exact window_max_apply (by decide) (by decide) (V (Proc.devRef .tc main_v174)) _ _ _ bottom_value b c i j Y hY

/-- The vectors of the first nearest-code stretch: each image's channel in one row. -/
theorem flat1_stage (b : Fin 128) (c : Fin 32) (i j : Fin 14) :
    ((StableHlo.after (stage 46 47) V) (Proc.devRef .tc main_v37) : FVec Ideal S128x32x196 .f32) (ix3 b c (at14 i j))
      = (V (Proc.devRef .tc main_v36) : FVec Ideal S128x32x14x14 .f32) (ix4 b c i j) := by
  simp only [stage, ops, ops0, ops1, ops2, ops3, ops4, List.cons_append, List.nil_append, List.drop, List.take, Nat.sub_zero,
    Nat.reduceSub]
  after_reads_simp
  refine shapeCast_apply _ _ _ _ ((Shape.rowMajor_val_four (ix4 b c i j)).trans (Eq.trans ?_ (Shape.rowMajor_val_three (ix3 b c _)).symm))
  show ((b.val * 32 + c.val) * 14 + i.val) * 14 + j.val = (b.val * 32 + c.val) * 196 + (14 * i.val + j.val)
  omega

/-- The vectors of the second nearest-code stretch: each image's channel in one row. -/
theorem flat2_stage (b : Fin 128) (c : Fin 32) (i j : Fin 14) :
    ((StableHlo.after (stage 134 135) V) (Proc.devRef .tc main_v106) : FVec Ideal S128x32x196 .f32) (ix3 b c (at14 i j))
      = (V (Proc.devRef .tc main_v105) : FVec Ideal S128x32x14x14 .f32) (ix4 b c i j) := by
  simp only [stage, ops, ops0, ops1, ops2, ops3, ops4, List.cons_append, List.nil_append, List.drop, List.take, Nat.sub_zero,
    Nat.reduceSub]
  after_reads_simp
  refine shapeCast_apply _ _ _ _ ((Shape.rowMajor_val_four (ix4 b c i j)).trans (Eq.trans ?_ (Shape.rowMajor_val_three (ix3 b c _)).symm))
  show ((b.val * 32 + c.val) * 14 + i.val) * 14 + j.val = (b.val * 32 + c.val) * 196 + (14 * i.val + j.val)
  omega

/-- The vectors of the third nearest-code stretch: each image's channel in one row. -/
theorem flat3_stage (b : Fin 128) (c : Fin 64) (i j : Fin 7) :
    ((StableHlo.after (stage 225 226) V) (Proc.devRef .tc main_v177) : FVec Ideal S128x64x49 .f32) (ix3 b c (at7 i j))
      = (V (Proc.devRef .tc main_v176) : FVec Ideal S128x64x7x7 .f32) (ix4 b c i j) := by
  simp only [stage, ops, ops0, ops1, ops2, ops3, ops4, List.cons_append, List.nil_append, List.drop, List.take, Nat.sub_zero,
    Nat.reduceSub]
  after_reads_simp
  refine shapeCast_apply _ _ _ _ ((Shape.rowMajor_val_four (ix4 b c i j)).trans (Eq.trans ?_ (Shape.rowMajor_val_three (ix3 b c _)).symm))
  show ((b.val * 64 + c.val) * 7 + i.val) * 7 + j.val = (b.val * 64 + c.val) * 49 + (7 * i.val + j.val)
  omega

/-- The vectors of the first nearest-code stretch divided by their lengths. -/
theorem unit1_stage : (StableHlo.after (stage 47 67) V) (Proc.devRef .tc main_v45) = xn_a (V (Proc.devRef .tc main_v37)) := by
  simp only [stage, ops, ops0, ops1, ops2, ops3, ops4, List.cons_append, List.nil_append, List.drop, List.take, Nat.sub_zero,
    Nat.reduceSub]
  after_reads_simp
  rfl

/-- The code numbers of the first nearest-code stretch. -/
theorem number1_stage : (StableHlo.after (stage 47 67) V) (Proc.devRef .tc main_v50)
    = amin_a (dist_a (V (Proc.devRef .tc main_arg11)) (xn_a (V (Proc.devRef .tc main_v37)))) := by
  simp only [stage, ops, ops0, ops1, ops2, ops3, ops4, List.cons_append, List.nil_append, List.drop, List.take, Nat.sub_zero,
    Nat.reduceSub]
  after_reads_simp
  rw [amin_a_def]
  rfl

/-- The codes the first nearest-code stretch picks. -/
theorem pick1_stage : (StableHlo.after (stage 67 90) V) (Proc.devRef .tc main_v69)
    = pick_a (V (Proc.devRef .tc main_arg11)) (V (Proc.devRef .tc main_v45)) (V (Proc.devRef .tc main_v50)) := by
  simp only [stage, ops, ops0, ops1, ops2, ops3, ops4, List.cons_append, List.nil_append, List.drop, List.take, Nat.sub_zero,
    Nat.reduceSub]
  after_reads_simp
  rfl

/-- The vectors of the second nearest-code stretch divided by their lengths. -/
theorem unit2_stage : (StableHlo.after (stage 135 155) V) (Proc.devRef .tc main_v114) = xn_a (V (Proc.devRef .tc main_v106)) := by
  simp only [stage, ops, ops0, ops1, ops2, ops3, ops4, List.cons_append, List.nil_append, List.drop, List.take, Nat.sub_zero,
    Nat.reduceSub]
  after_reads_simp
  rfl

/-- The code numbers of the second nearest-code stretch. -/
theorem number2_stage : (StableHlo.after (stage 135 155) V) (Proc.devRef .tc main_v119)
    = amin_a (dist_a (V (Proc.devRef .tc main_arg12)) (xn_a (V (Proc.devRef .tc main_v106)))) := by
  simp only [stage, ops, ops0, ops1, ops2, ops3, ops4, List.cons_append, List.nil_append, List.drop, List.take, Nat.sub_zero,
    Nat.reduceSub]
  after_reads_simp
  rw [amin_a_def]
  rfl

/-- The codes the second nearest-code stretch picks. -/
theorem pick2_stage : (StableHlo.after (stage 155 178) V) (Proc.devRef .tc main_v138)
    = pick_a (V (Proc.devRef .tc main_arg12)) (V (Proc.devRef .tc main_v114)) (V (Proc.devRef .tc main_v119)) := by
  simp only [stage, ops, ops0, ops1, ops2, ops3, ops4, List.cons_append, List.nil_append, List.drop, List.take, Nat.sub_zero,
    Nat.reduceSub]
  after_reads_simp
  rfl

/-- The vectors of the third nearest-code stretch divided by their lengths. -/
theorem unit3_stage : (StableHlo.after (stage 226 246) V) (Proc.devRef .tc main_v185) = xn_b (V (Proc.devRef .tc main_v177)) := by
  simp only [stage, ops, ops0, ops1, ops2, ops3, ops4, List.cons_append, List.nil_append, List.drop, List.take, Nat.sub_zero,
    Nat.reduceSub]
  after_reads_simp
  rfl

/-- The code numbers of the third nearest-code stretch. -/
theorem number3_stage : (StableHlo.after (stage 226 246) V) (Proc.devRef .tc main_v190)
    = amin_b (dist_b (V (Proc.devRef .tc main_arg13)) (xn_b (V (Proc.devRef .tc main_v177)))) := by
  simp only [stage, ops, ops0, ops1, ops2, ops3, ops4, List.cons_append, List.nil_append, List.drop, List.take, Nat.sub_zero,
    Nat.reduceSub]
  after_reads_simp
  rw [amin_b_def]
  rfl

/-- The codes the third nearest-code stretch picks. -/
theorem pick3_stage : (StableHlo.after (stage 246 269) V) (Proc.devRef .tc main_v209)
    = pick_b (V (Proc.devRef .tc main_arg13)) (V (Proc.devRef .tc main_v185)) (V (Proc.devRef .tc main_v190)) := by
  simp only [stage, ops, ops0, ops1, ops2, ops3, ops4, List.cons_append, List.nil_append, List.drop, List.take, Nat.sub_zero,
    Nat.reduceSub]
  after_reads_simp
  rfl

/-- The first nearest-code stretch's codes read as images. -/
theorem open1_stage (b : Fin 128) (c : Fin 32) (i j : Fin 14) :
    ((StableHlo.after (stage 90 91) V) (Proc.devRef .tc main_v70) : FVec Ideal S128x32x14x14 .f32) (ix4 b c i j)
      = (V (Proc.devRef .tc main_v69) : FVec Ideal S128x32x196 .f32) (ix3 b c (at14 i j)) := by
  simp only [stage, ops, ops0, ops1, ops2, ops3, ops4, List.cons_append, List.nil_append, List.drop, List.take, Nat.sub_zero,
    Nat.reduceSub]
  after_reads_simp
  refine shapeCast_apply _ _ _ _ ((Shape.rowMajor_val_three (ix3 b c (at14 i j))).trans (Eq.trans ?_ (Shape.rowMajor_val_four (ix4 b c i j)).symm))
  show (b.val * 32 + c.val) * 196 + (14 * i.val + j.val) = ((b.val * 32 + c.val) * 14 + i.val) * 14 + j.val
  omega

/-- The second nearest-code stretch's codes read as images. -/
theorem open2_stage (b : Fin 128) (c : Fin 32) (i j : Fin 14) :
    ((StableHlo.after (stage 178 179) V) (Proc.devRef .tc main_v139) : FVec Ideal S128x32x14x14 .f32) (ix4 b c i j)
      = (V (Proc.devRef .tc main_v138) : FVec Ideal S128x32x196 .f32) (ix3 b c (at14 i j)) := by
  simp only [stage, ops, ops0, ops1, ops2, ops3, ops4, List.cons_append, List.nil_append, List.drop, List.take, Nat.sub_zero,
    Nat.reduceSub]
  after_reads_simp
  refine shapeCast_apply _ _ _ _ ((Shape.rowMajor_val_three (ix3 b c (at14 i j))).trans (Eq.trans ?_ (Shape.rowMajor_val_four (ix4 b c i j)).symm))
  show (b.val * 32 + c.val) * 196 + (14 * i.val + j.val) = ((b.val * 32 + c.val) * 14 + i.val) * 14 + j.val
  omega

/-- The third nearest-code stretch's codes read as features, image by image. -/
theorem features_stage (b : Fin 128) (c : Fin 64) (d : Fin 49) :
    ((StableHlo.after (stage 269 271) V) (Proc.devRef .tc main_v211) : FVec Ideal S128x3136 .f32) (ix2 b (feature c d))
      = (V (Proc.devRef .tc main_v209) : FVec Ideal S128x64x49 .f32) (ix3 b c d) := by
  obtain ⟨i, j, rfl⟩ := at7_surj d
  simp only [stage, ops, ops0, ops1, ops2, ops3, ops4, List.cons_append, List.nil_append, List.drop, List.take, Nat.sub_zero,
    Nat.reduceSub]
  after_reads_simp
  refine (shapeCast_apply _ _ _ (ix4 b c i j) ((Shape.rowMajor_val_four (ix4 b c i j)).trans (Eq.trans ?_ (Shape.rowMajor_val_two (ix2 b _)).symm))).trans
    (shapeCast_apply _ _ _ _ ((Shape.rowMajor_val_three (ix3 b c (at7 i j))).trans (Eq.trans ?_ (Shape.rowMajor_val_four (ix4 b c i j)).symm)))
  · show ((b.val * 64 + c.val) * 7 + i.val) * 7 + j.val = b.val * 3136 + (49 * c.val + (7 * i.val + j.val))
    omega
  · show (b.val * 64 + c.val) * 49 + (7 * i.val + j.val) = ((b.val * 64 + c.val) * 7 + i.val) * 7 + j.val
    omega

/-- The outputs of the two dense layers. -/
theorem dense_stage (b : Fin 128) (n : Fin 10) :
    ((StableHlo.after (stage 271 284) V) (Proc.devRef .tc main_v222) : FVec Ideal S128x10 .f32) (ix2 b n)
      = fc (fun f => (V (Proc.devRef .tc main_v211) : FVec Ideal S128x3136 .f32) (ix2 b f))
          (fun k f => (V (Proc.devRef .tc main_arg7) : FVec Ideal S1024x3136 .f32) (ix2 k f))
          (fun k => (V (Proc.devRef .tc main_arg8) : FVec Ideal S1024 .f32) (ix1 k))
          (fun o k => (V (Proc.devRef .tc main_arg9) : FVec Ideal S10x1024 .f32) (ix2 o k))
          (fun o => (V (Proc.devRef .tc main_arg10) : FVec Ideal S10 .f32) (ix1 o)) n := by
  simp only [stage, ops, ops0, ops1, ops2, ops3, ops4, List.cons_append, List.nil_append, List.drop, List.take, Nat.sub_zero,
    Nat.reduceSub]
  after_reads_simp
  simp only [StableHlo.TRef.toBuf, StableHlo.TRef.ofBuf, cast_cast, cast_eq]
  exact dense_apply _ _ _ _ _ b n

end Cert.ReferenceIdeal.Val

end
-- ==== Proof.RefNet.lean ====
/- The reference's result is the network's output: its stretches put together. -/
module

public import proofs.«01_k».proof.Proof.RefConv
public import proofs.«01_k».proof.Proof.RefStage

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.Spec

variable (V : Valuation τ sig (Elt Ideal))

/-- The network's arguments read off the reference's arrays. -/
def argsOf : Args where
  x := fun b c i j => (V (Proc.devRef .tc main_arg0) : FVec Ideal S128x1x28x28 .f32) (ix4 b c i j)
  w1 := fun o c u v => (V (Proc.devRef .tc main_arg1) : FVec Ideal S32x1x5x5 .f32) (ix4 o c u v)
  b1 := fun o => (V (Proc.devRef .tc main_arg2) : FVec Ideal S32 .f32) (ix1 o)
  w2 := fun o c u v => (V (Proc.devRef .tc main_arg3) : FVec Ideal S32x32x5x5 .f32) (ix4 o c u v)
  b2 := fun o => (V (Proc.devRef .tc main_arg4) : FVec Ideal S32 .f32) (ix1 o)
  w3 := fun o c u v => (V (Proc.devRef .tc main_arg5) : FVec Ideal S64x32x5x5 .f32) (ix4 o c u v)
  b3 := fun o => (V (Proc.devRef .tc main_arg6) : FVec Ideal S64 .f32) (ix1 o)
  wf := fun k f => (V (Proc.devRef .tc main_arg7) : FVec Ideal S1024x3136 .f32) (ix2 k f)
  bf := fun k => (V (Proc.devRef .tc main_arg8) : FVec Ideal S1024 .f32) (ix1 k)
  wl := fun o k => (V (Proc.devRef .tc main_arg9) : FVec Ideal S10x1024 .f32) (ix2 o k)
  bl := fun o => (V (Proc.devRef .tc main_arg10) : FVec Ideal S10 .f32) (ix1 o)
  c1 := fun o k e => (V (Proc.devRef .tc main_arg11) : FVec Ideal S32x512x196 .f32) (ix3 o k e)
  c2 := fun o k e => (V (Proc.devRef .tc main_arg12) : FVec Ideal S32x512x196 .f32) (ix3 o k e)
  c3 := fun o k e => (V (Proc.devRef .tc main_arg13) : FVec Ideal S64x512x49 .f32) (ix3 o k e)

/-- The first convolution. -/
theorem net_relu1 (b : Fin 128) (o : Fin 32) (i j : Fin 28) :
    (U V 43 (Proc.devRef .tc main_v34) : FVec Ideal S128x32x28x28 .f32) (ix4 b o i j)
      = convRelu ((argsOf V).x b) ((argsOf V).w1 o) ((argsOf V).b1 o) i j := by
  rw [U_stage V (a := 0) (b := 43) (by decide)]
  refine (conv1_stage _ b o i j).trans ?_
  simp only [U_arg V 0 (a := main_arg0) (by decide), U_arg V 0 (a := main_arg1) (by decide), U_arg V 0 (a := main_arg2) (by decide)]
  rfl

/-- The first convolution after pooling, as vectors. -/
theorem net_conv1 (b : Fin 128) (o : Fin 32) (e : Fin 196) :
    (U V 47 (Proc.devRef .tc main_v37) : FVec Ideal S128x32x196 .f32) (ix3 b o e) = conv1 (argsOf V) b o e := by
  obtain ⟨i, j, rfl⟩ := at14_surj e
  rw [U_stage V (a := 46) (b := 47) (by decide), conv1_at]
  refine (flat1_stage _ b o i j).trans ?_
  rw [U_stage V (a := 43) (b := 46) (by decide)]
  exact pool1_stage _ b o i j _ fun p q => net_relu1 V b o p q

/-- The first nearest-code layer. -/
theorem net_near1 (b : Fin 128) (o : Fin 32) (d : Fin 196) :
    (U V 90 (Proc.devRef .tc main_v69) : FVec Ideal S128x32x196 .f32) (ix3 b o d) = near1 (argsOf V) b o d := by
  rw [U_stage V (a := 67) (b := 90) (by decide), pick1_stage, U_stage V (a := 47) (b := 67) (by decide), unit1_stage, number1_stage,
    ← U_stage V (a := 47) (b := 67) (by decide), U_arg V 67 (a := main_arg11) (by decide), U_arg V 47 (a := main_arg11) (by decide)]
  refine (near_a_apply _ _ b o d).trans ?_
  simp only [net_conv1 V]
  rfl

/-- The first nearest-code layer, as images. -/
theorem net_open1 (b : Fin 128) (o : Fin 32) (i j : Fin 14) :
    (U V 91 (Proc.devRef .tc main_v70) : FVec Ideal S128x32x14x14 .f32) (ix4 b o i j) = near1 (argsOf V) b o (at14 i j) := by
  rw [U_stage V (a := 90) (b := 91) (by decide)]
  exact (open1_stage _ b o i j).trans (net_near1 V b o _)

/-- The second convolution, as vectors. -/
theorem net_conv2 (b : Fin 128) (o : Fin 32) (e : Fin 196) :
    (U V 135 (Proc.devRef .tc main_v106) : FVec Ideal S128x32x196 .f32) (ix3 b o e) = conv2 (argsOf V) b o e := by
  obtain ⟨i, j, rfl⟩ := at14_surj e
  rw [U_stage V (a := 134) (b := 135) (by decide), conv2_at]
  refine (flat2_stage _ b o i j).trans ?_
  rw [U_stage V (a := 91) (b := 134) (by decide)]
  refine (conv2_stage _ b o i j).trans ?_
  simp only [U_arg V 91 (a := main_arg3) (by decide), U_arg V 91 (a := main_arg4) (by decide), net_open1 V]
  rfl

/-- The second nearest-code layer. -/
theorem net_near2 (b : Fin 128) (o : Fin 32) (d : Fin 196) :
    (U V 178 (Proc.devRef .tc main_v138) : FVec Ideal S128x32x196 .f32) (ix3 b o d) = near2 (argsOf V) b o d := by
  rw [U_stage V (a := 155) (b := 178) (by decide), pick2_stage, U_stage V (a := 135) (b := 155) (by decide), unit2_stage, number2_stage,
    ← U_stage V (a := 135) (b := 155) (by decide), U_arg V 155 (a := main_arg12) (by decide), U_arg V 135 (a := main_arg12) (by decide)]
  refine (near_a_apply _ _ b o d).trans ?_
  simp only [net_conv2 V]
  rfl

/-- The second nearest-code layer, as images. -/
theorem net_open2 (b : Fin 128) (o : Fin 32) (i j : Fin 14) :
    (U V 179 (Proc.devRef .tc main_v139) : FVec Ideal S128x32x14x14 .f32) (ix4 b o i j) = near2 (argsOf V) b o (at14 i j) := by
  rw [U_stage V (a := 178) (b := 179) (by decide)]
  exact (open2_stage _ b o i j).trans (net_near2 V b o _)

/-- The third convolution. -/
theorem net_relu3 (b : Fin 128) (o : Fin 64) (i j : Fin 14) :
    (U V 222 (Proc.devRef .tc main_v174) : FVec Ideal S128x64x14x14 .f32) (ix4 b o i j)
      = convRelu (fun c i j => near2 (argsOf V) b c (at14 i j)) ((argsOf V).w3 o) ((argsOf V).b3 o) i j := by
  rw [U_stage V (a := 179) (b := 222) (by decide)]
  refine (conv3_stage _ b o i j).trans ?_
  simp only [U_arg V 179 (a := main_arg5) (by decide), U_arg V 179 (a := main_arg6) (by decide), net_open2 V]
  rfl

/-- The third convolution after pooling, as vectors. -/
theorem net_conv3 (b : Fin 128) (o : Fin 64) (e : Fin 49) :
    (U V 226 (Proc.devRef .tc main_v177) : FVec Ideal S128x64x49 .f32) (ix3 b o e) = conv3 (argsOf V) b o e := by
  obtain ⟨i, j, rfl⟩ := at7_surj e
  rw [U_stage V (a := 225) (b := 226) (by decide), conv3_at]
  refine (flat3_stage _ b o i j).trans ?_
  rw [U_stage V (a := 222) (b := 225) (by decide)]
  exact pool3_stage _ b o i j _ fun p q => net_relu3 V b o p q

/-- The third nearest-code layer. -/
theorem net_near3 (b : Fin 128) (o : Fin 64) (d : Fin 49) :
    (U V 269 (Proc.devRef .tc main_v209) : FVec Ideal S128x64x49 .f32) (ix3 b o d) = near3 (argsOf V) b o d := by
  rw [U_stage V (a := 246) (b := 269) (by decide), pick3_stage, U_stage V (a := 226) (b := 246) (by decide), unit3_stage, number3_stage,
    ← U_stage V (a := 226) (b := 246) (by decide), U_arg V 246 (a := main_arg13) (by decide), U_arg V 226 (a := main_arg13) (by decide)]
  refine (near_b_apply _ _ b o d).trans ?_
  simp only [net_conv3 V]
  rfl

/-- The features. -/
theorem net_features (b : Fin 128) (f : Fin 3136) :
    (U V 271 (Proc.devRef .tc main_v211) : FVec Ideal S128x3136 .f32) (ix2 b f) = features (argsOf V) b f := by
  obtain ⟨c, d, rfl⟩ := feature_surj f
  rw [U_stage V (a := 269) (b := 271) (by decide), features_at]
  exact (features_stage _ b c d).trans (net_near3 V b c d)

/-- The reference's result at an image and an output is the network's. -/
theorem net_result (b : Fin 128) (n : Fin 10) :
    (U V 284 (Proc.devRef .tc main_v222) : FVec Ideal S128x10 .f32) (ix2 b n) = network (argsOf V) b n := by
  rw [U_stage V (a := 271) (b := 284) (by decide)]
  refine (dense_stage _ b n).trans ?_
  simp only [U_arg V 271 (a := main_arg7) (by decide), U_arg V 271 (a := main_arg8) (by decide), U_arg V 271 (a := main_arg9) (by decide), U_arg V 271 (a := main_arg10) (by decide), net_features V]
  rfl

end Cert.ReferenceIdeal.Val

end
-- ==== Proof.Equation.lean ====
/- The equation: from the same arguments both programs' results are the network's outputs. -/
module

public import proofs.«01_k».proof.Proof.NetK
public import proofs.«01_k».proof.Proof.RefNet

@[expose] public section

set_option maxRecDepth 16384

noncomputable section

namespace Cert.Proof

open Idealize.ShloMosaic Idealize.ShloMosaic.TcCoe
open Cert.Spec

/-- Results over the extended reals that agree at every image and output are equal. -/
theorem result_ext (x y : FVec Ideal ⟨2, ![128, 10]⟩ .f32) (h : ∀ (b : Fin 128) (n : Fin 10), x (ix2 b n) = y (ix2 b n)) : x = y :=
  funext fun j => by rw [eq_ix2 j]; exact h _ _

variable (V : Valuation Cert.KernelIdeal.τ Cert.KernelIdeal.sig (Elt Ideal)) (V' : Valuation Cert.ReferenceIdeal.τ Cert.ReferenceIdeal.sig (Elt Ideal))

/-- Two lists of arguments are the same when their entries are. -/
theorem args_eq
    (h0 : V' (Proc.devRef .tc Cert.ReferenceIdeal.main_arg0) = V (Proc.devRef .tc Cert.KernelIdeal.main_arg0))
    (h1 : V' (Proc.devRef .tc Cert.ReferenceIdeal.main_arg1) = V (Proc.devRef .tc Cert.KernelIdeal.main_arg1))
    (h2 : V' (Proc.devRef .tc Cert.ReferenceIdeal.main_arg2) = V (Proc.devRef .tc Cert.KernelIdeal.main_arg2))
    (h3 : V' (Proc.devRef .tc Cert.ReferenceIdeal.main_arg3) = V (Proc.devRef .tc Cert.KernelIdeal.main_arg3))
    (h4 : V' (Proc.devRef .tc Cert.ReferenceIdeal.main_arg4) = V (Proc.devRef .tc Cert.KernelIdeal.main_arg4))
    (h5 : V' (Proc.devRef .tc Cert.ReferenceIdeal.main_arg5) = V (Proc.devRef .tc Cert.KernelIdeal.main_arg5))
    (h6 : V' (Proc.devRef .tc Cert.ReferenceIdeal.main_arg6) = V (Proc.devRef .tc Cert.KernelIdeal.main_arg6))
    (h7 : V' (Proc.devRef .tc Cert.ReferenceIdeal.main_arg7) = V (Proc.devRef .tc Cert.KernelIdeal.main_arg7))
    (h8 : V' (Proc.devRef .tc Cert.ReferenceIdeal.main_arg8) = V (Proc.devRef .tc Cert.KernelIdeal.main_arg8))
    (h9 : V' (Proc.devRef .tc Cert.ReferenceIdeal.main_arg9) = V (Proc.devRef .tc Cert.KernelIdeal.main_arg9))
    (h10 : V' (Proc.devRef .tc Cert.ReferenceIdeal.main_arg10) = V (Proc.devRef .tc Cert.KernelIdeal.main_arg10))
    (h11 : V' (Proc.devRef .tc Cert.ReferenceIdeal.main_arg11) = V (Proc.devRef .tc Cert.KernelIdeal.main_arg11))
    (h12 : V' (Proc.devRef .tc Cert.ReferenceIdeal.main_arg12) = V (Proc.devRef .tc Cert.KernelIdeal.main_arg12))
    (h13 : V' (Proc.devRef .tc Cert.ReferenceIdeal.main_arg13) = V (Proc.devRef .tc Cert.KernelIdeal.main_arg13)) :
    Cert.ReferenceIdeal.Val.argsOf V' = Cert.KernelIdeal.Val.argsOf V := by
  unfold Cert.ReferenceIdeal.Val.argsOf Cert.KernelIdeal.Val.argsOf
  rw [h0, h1, h2, h3, h4, h5, h6, h7, h8, h9, h10, h11, h12, h13]

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The reference's result is the kernel's, when their arguments are the same. -/
theorem result_eq (h : Cert.ReferenceIdeal.Val.argsOf V' = Cert.KernelIdeal.Val.argsOf (Cert.KernelIdeal.Gen.W0 m ρ c)) :
    (Cert.ReferenceIdeal.Val.U V' 284 (Proc.devRef .tc Cert.ReferenceIdeal.main_v222) : FVec Ideal ⟨2, ![128, 10]⟩ .f32)
      = (Cert.KernelIdeal.Gen.W14 m ρ c (Proc.devRef .tc Cert.KernelIdeal.main_v28) : FVec Ideal ⟨2, ![128, 10]⟩ .f32) := by
  refine result_ext _ _ fun b n => ?_
  exact (Cert.ReferenceIdeal.Val.net_result V' b n).trans ((congrArg (fun A => network A b n) h).trans
    (Cert.KernelIdeal.Val.net_result m ρ c b n).symm)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RunK
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference program leaves its arguments as launched, and it has no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD, ∀ a ∈ Cert.ReferenceIdeal.Val.argRefs,
        r.2.mem ((c.tc : Thread Cert.ReferenceIdeal.nD Cert.ReferenceIdeal.τ).loc a) = m ((c.tc : Thread Cert.ReferenceIdeal.nD Cert.ReferenceIdeal.τ).loc a))
        ∧ r.2.sem = fun _ => 0) :=
  (θ_run _ _ _).mono
    (fun r h => ⟨fun c a ha => (h c a).trans (Cert.ReferenceIdeal.Val.U_arg _ 284 ha), sem_eq_zero_of_no_sems rfl r.2⟩)
    (Cert.ReferenceIdeal.Val.run m ρ)

/-- The reference program ends with the result its operations compute, and its arguments as launched. -/
theorem value_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v222)
            = Cert.ReferenceIdeal.Val.U (StableHlo.launchContents m c) 284 (Proc.devRef .tc Cert.ReferenceIdeal.main_v222)
          ∧ ∀ a ∈ Cert.ReferenceIdeal.Val.argRefs, r.2.mem ((c.tc : Thread Cert.ReferenceIdeal.nD Cert.ReferenceIdeal.τ).loc a)
            = m ((c.tc : Thread Cert.ReferenceIdeal.nD Cert.ReferenceIdeal.τ).loc a)) :=
  (θ_run _ _ _).mono
    (fun r h c => ⟨h c _, fun a ha => (h c a).trans (Cert.ReferenceIdeal.Val.U_arg _ 284 ha)⟩)
    (Cert.ReferenceIdeal.Val.run m ρ)

/-- From the same arguments, the kernel's idealization and the reference end with the same result. -/
theorem values_agree : algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Gen.W14 m g c (Proc.devRef .tc Cert.KernelIdeal.main_v28), ?_, ?_⟩
  · exact (θ_run _ _ _).mono (fun r h c => ⟨h.1 c, h.2.1 c⟩)
      (θ_run_and (Cert.KernelIdeal.Val.run_result m g) (Cert.KernelIdeal.Gen.frame m g))
  · refine (θ_run _ _ _).mono (fun r h c => ?_) (value_reference m' g')
    obtain ⟨h0, h1, h2, h3, h4, h5, h6, h7, h8, h9, h10, h11, h12, h13⟩ := hagree c
    refine ⟨(h c).1.trans (result_eq (StableHlo.launchContents m' c) m g c
      (args_eq _ _ h0 h1 h2 h3 h4 h5 h6 h7 h8 h9 h10 h11 h12 h13)), ?_⟩
    refine ⟨(h c).2 _ ?_, (h c).2 _ ?_, (h c).2 _ ?_, (h c).2 _ ?_, (h c).2 _ ?_, (h c).2 _ ?_, (h c).2 _ ?_, (h c).2 _ ?_,
      (h c).2 _ ?_, (h c).2 _ ?_, (h c).2 _ ?_, (h c).2 _ ?_, (h c).2 _ ?_, (h c).2 _ ?_⟩ <;> decide

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run _ _ _).mono (fun r h => ⟨fun c => by
    refine ⟨h.1 c _ ?_, h.1 c _ ?_, h.1 c _ ?_, h.1 c _ ?_, h.1 c _ ?_, h.1 c _ ?_, h.1 c _ ?_, h.1 c _ ?_, h.1 c _ ?_,
      h.1 c _ ?_, h.1 c _ ?_, h.1 c _ ?_, h.1 c _ ?_, h.1 c _ ?_⟩ <;> decide, h.2⟩) (frame_reference m ρ),
  trivial, values_agree⟩

end Cert.Proof

end
